-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_q_in_normal_range [hPre_q_in_normal_range : Cert.Pre_q_in_normal_range.Facts] (m : (ℓ : Loc Cert.KernelIdeal.nD Cert.KernelIdeal.τ Cert.KernelIdeal.sig) → Buf (Elt Ideal) ℓ) : Prop :=
  ∀ c : Dev Cert.KernelIdeal.nD,
    (Cert.Pre_q_in_normal_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_q_in_normal_range [hPre_q_in_normal_range : Cert.Pre_q_in_normal_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_q_in_normal_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_q_in_normal_range [hKernelIdeal : Cert.KernelIdeal.Facts] [hPre_q_in_normal_range : Cert.Pre_q_in_normal_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_q_in_normal_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_q_in_normal_range [hReferenceIdeal : Cert.ReferenceIdeal.Facts] [hPre_q_in_normal_range : Cert.Pre_q_in_normal_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_q_in_normal_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_d" .f32 0x3A638E39#32 ((1 / 1152 : ℝ) : EReal)

def algebraic_KernelIdeal_ReferenceIdeal_pre_q_in_normal_range [hKernelIdeal : Cert.KernelIdeal.Facts] [hReferenceIdeal : Cert.ReferenceIdeal.Facts] [hPre_q_in_normal_range : Cert.Pre_q_in_normal_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_q_in_normal_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_q_in_normal_range : Cert.Pre_q_in_normal_range.Facts),
    quiescent_Kernel (hKernel := hKernel)
    ∧ quiescent_KernelIdeal (hKernelIdeal := hKernelIdeal)
    ∧ quiescent_KernelIdeal_pre_q_in_normal_range (hKernelIdeal := hKernelIdeal) (hPre_q_in_normal_range := hPre_q_in_normal_range)
    ∧ quiescent_ReferenceIdeal (hReferenceIdeal := hReferenceIdeal)
    ∧ quiescent_ReferenceIdeal_pre_q_in_normal_range (hReferenceIdeal := hReferenceIdeal) (hPre_q_in_normal_range := hPre_q_in_normal_range)
    ∧ preserves_Kernel_KernelIdeal
    ∧ algebraic_KernelIdeal_ReferenceIdeal_pre_q_in_normal_range (hKernelIdeal := hKernelIdeal) (hReferenceIdeal := hReferenceIdeal) (hPre_q_in_normal_range := hPre_q_in_normal_range)
-- ==== Pre_q_in_normal_range.lean ====
abbrev S4x1024x1152 : Shape := ⟨3, ![4, 1024, 1152]⟩
abbrev S1152 : Shape := ⟨1, ![1152]⟩
abbrev S1536x1152 : Shape := ⟨2, ![1536, 1152]⟩
abbrev S1536 : Shape := ⟨1, ![1536]⟩
abbrev S_ : Shape := ⟨0, ![]⟩
abbrev S4x1024 : Shape := ⟨2, ![4, 1024]⟩
abbrev S4x1024x1 : Shape := ⟨3, ![4, 1024, 1]⟩
abbrev S1x1x1152 : Shape := ⟨3, ![1, 1, 1152]⟩

class Facts : Prop where
  bitsLt_bf16_f32 : FTy.bits .bf16 < FTy.bits .f32
  reducesTo_S4x1024x1152_S4x1024_d2 : S4x1024x1152.ReducesTo [2] S4x1024
  h_S_ : 0 < S_.numel
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x1152_0_1_2 : S4x1024x1.BroadcastsInDim S4x1024x1152 (![0, 1, 2] : Fin 3 → Fin S4x1024x1152.rank)
  bcast_S1152_S1x1x1152_2 : S1152.BroadcastsInDim S1x1x1152 (![2] : Fin 1 → Fin S1x1x1152.rank)
  bcast_S1x1x1152_S4x1024x1152_0_1_2 : S1x1x1152.BroadcastsInDim S4x1024x1152 (![0, 1, 2] : Fin 3 → Fin S4x1024x1152.rank)

variable [Facts]

def fn_part1 {F : FTy → Type} [FloatOps F] (main_v17 : FVec F S4x1024x1 .f32) (main_v18 : FVec F S4x1024x1 .f32) : IVec S4x1024x1 1 :=
  let main_v19 : FVec F S4x1024x1 .f32 := mulf main_v17 main_v18
  let main_cst_4 : FVec F S_ .f32 := constant S_ .f32 0x00000000#32
  let main_v20 : FVec F S4x1024x1 .f32 := broadcastInDim S4x1024x1 ![] bcast_S_S4x1024x1 main_cst_4
  let main_v21 : IVec S4x1024x1 1 := cmpf .oeq main_v19 main_v20
  let main_cst_5 : FVec F S_ .f32 := constant S_ .f32 0x00800000#32
  let main_v22 : FVec F S4x1024x1 .f32 := broadcastInDim S4x1024x1 ![] bcast_S_S4x1024x1 main_cst_5
  let main_v23 : IVec S4x1024x1 1 := cmpf .oge main_v19 main_v22
  let main_cst_6 : FVec F S_ .f32 := constant S_ .f32 0x7E800000#32
  let main_v24 : FVec F S4x1024x1 .f32 := broadcastInDim S4x1024x1 ![] bcast_S_S4x1024x1 main_cst_6
  let main_v25 : IVec S4x1024x1 1 := cmpf .olt main_v19 main_v24
  let main_v26 : IVec S4x1024x1 1 := andi main_v23 main_v25
  let main_v27 : IVec S4x1024x1 1 := ori main_v21 main_v26
  main_v27

def fn {F : FTy → Type} [FloatOps F] (main_arg0 : FVec F S4x1024x1152 .bf16) (main_arg1 : FVec F S1152 .bf16) (main_arg2 : FVec F S1536x1152 .fp8e4m3) (main_arg3 : FVec F S1536 .f32) : IVec S4x1024x1 1 :=
  let main_v0 : FVec F S4x1024x1152 .f32 := (extf .f32 · bitsLt_bf16_f32) main_arg0
  let main_v1 : FVec F S4x1024x1152 .f32 := mulf main_v0 main_v0
  let main_cst : FVec F S_ .f32 := constant S_ .f32 0x00000000#32
  let main_v2 : FVec F S4x1024 .f32 := (fun x v => Host.reduceAdd x v reducesTo_S4x1024x1152_S4x1024_d2 h_S_) main_v1 main_cst
  let main_v3 : FVec F S4x1024x1 .f32 := broadcastInDim S4x1024x1 ![0, 1] bcast_S4x1024_S4x1024x1_0_1 main_v2
  let main_cst_0 : FVec F S_ .f32 := constant S_ .f32 0x44900000#32
  let main_v4 : FVec F S4x1024x1 .f32 := broadcastInDim S4x1024x1 ![] bcast_S_S4x1024x1 main_cst_0
  let main_v5 : FVec F S4x1024x1 .f32 := Host.divf main_v3 main_v4
  let main_cst_1 : FVec F S_ .f32 := constant S_ .f32 0x358637BD#32
  let main_v6 : FVec F S4x1024x1 .f32 := broadcastInDim S4x1024x1 ![] bcast_S_S4x1024x1 main_cst_1
  let main_v7 : FVec F S4x1024x1 .f32 := addf main_v5 main_v6
  let main_v8 : FVec F S4x1024x1 .f32 := Host.rsqrt main_v7
  let main_v9 : FVec F S4x1024x1152 .f32 := broadcastInDim S4x1024x1152 ![0, 1, 2] bcast_S4x1024x1_S4x1024x1152_0_1_2 main_v8
  let main_v10 : FVec F S4x1024x1152 .f32 := mulf main_v0 main_v9
  let main_v11 : FVec F S1152 .f32 := (extf .f32 · bitsLt_bf16_f32) main_arg1
  let main_v12 : FVec F S1x1x1152 .f32 := broadcastInDim S1x1x1152 ![2] bcast_S1152_S1x1x1152_2 main_v11
  let main_v13 : FVec F S4x1024x1152 .f32 := broadcastInDim S4x1024x1152 ![0, 1, 2] bcast_S1x1x1152_S4x1024x1152_0_1_2 main_v12
  let main_v14 : FVec F S4x1024x1152 .f32 := mulf main_v10 main_v13
  let main_v15 : FVec F S4x1024x1152 .f32 := Host.absf main_v14
  let main_cst_2 : FVec F S_ .f32 := constant S_ .f32 0xFF800000#32
  let main_v16 : FVec F S4x1024 .f32 := (fun x v => Host.reduce FloatOps.maximumf x v reducesTo_S4x1024x1152_S4x1024_d2 h_S_) main_v15 main_cst_2
  let main_v17 : FVec F S4x1024x1 .f32 := broadcastInDim S4x1024x1 ![0, 1] bcast_S4x1024_S4x1024x1_0_1 main_v16
  let main_cst_3 : FVec F S_ .f32 := constant S_ .f32 0x3B124925#32
  let main_v18 : FVec F S4x1024x1 .f32 := broadcastInDim S4x1024x1 ![] bcast_S_S4x1024x1 main_cst_3
  fn_part1 (F := F) main_v17 main_v18
-- ==== Kernel.lean ====
abbrev S4x1024x1152 : Shape := ⟨3, ![4, 1024, 1152]⟩
abbrev S1152 : Shape := ⟨1, ![1152]⟩
abbrev S1536x1152 : Shape := ⟨2, ![1536, 1152]⟩
abbrev S1536 : Shape := ⟨1, ![1536]⟩
abbrev S4096x1152 : Shape := ⟨2, ![4096, 1152]⟩
abbrev S1x1152 : Shape := ⟨2, ![1, 1152]⟩
abbrev S1x1536 : Shape := ⟨2, ![1, 1536]⟩
abbrev S4096x1536 : Shape := ⟨2, ![4096, 1536]⟩
abbrev S4x1x1024 : Shape := ⟨3, ![4, 1, 1024]⟩
abbrev S512x1152 : Shape := ⟨2, ![512, 1152]⟩
abbrev S512x1536 : Shape := ⟨2, ![512, 1536]⟩
abbrev S1x1x512 : Shape := ⟨3, ![1, 1, 512]⟩
abbrev S512x128 : Shape := ⟨2, ![512, 128]⟩
abbrev S32x1152 : Shape := ⟨2, ![32, 1152]⟩
abbrev S32 : Shape := ⟨1, ![32]⟩
abbrev S32x1 : Shape := ⟨2, ![32, 1]⟩
abbrev S32x256 : Shape := ⟨2, ![32, 256]⟩
abbrev S32x128 : Shape := ⟨2, ![32, 128]⟩
abbrev S512x1 : Shape := ⟨2, ![512, 1]⟩
abbrev S128x512 : Shape := ⟨2, ![128, 512]⟩
abbrev S1x512 : Shape := ⟨2, ![1, 512]⟩

abbrev nBuf : Space → Nat
  | .hbm => 10
  | .vmem => 12
  | .smem => 0
  | _ => 0

abbrev bufTy : (tb : Table) → Fin (tcTables nBuf tb) → BufTy
  | .hbm, ⟨0, _⟩ => ⟨S4x1024x1152, .bf16⟩
  | .hbm, ⟨1, _⟩ => ⟨S1152, .bf16⟩
  | .hbm, ⟨2, _⟩ => ⟨S1536x1152, .fp8e4m3⟩
  | .hbm, ⟨3, _⟩ => ⟨S1536, .f32⟩
  | .hbm, ⟨4, _⟩ => ⟨S4096x1152, .bf16⟩
  | .hbm, ⟨5, _⟩ => ⟨S1x1152, .bf16⟩
  | .hbm, ⟨6, _⟩ => ⟨S1x1536, .f32⟩
  | .hbm, ⟨7, _⟩ => ⟨S4096x1536, .bf16⟩
  | .hbm, ⟨8, _⟩ => ⟨S4096x1152, .fp8e4m3⟩
  | .hbm, ⟨9, _⟩ => ⟨S4x1x1024, .f32⟩
  | .local _ .vmem, ⟨0, _⟩ => ⟨S512x1152, .bf16⟩
  | .local _ .vmem, ⟨1, _⟩ => ⟨S512x1152, .bf16⟩
  | .local _ .vmem, ⟨2, _⟩ => ⟨S1x1152, .bf16⟩
  | .local _ .vmem, ⟨3, _⟩ => ⟨S1536x1152, .fp8e4m3⟩
  | .local _ .vmem, ⟨4, _⟩ => ⟨S1x1536, .f32⟩
  | .local _ .vmem, ⟨5, _⟩ => ⟨S512x1536, .bf16⟩
  | .local _ .vmem, ⟨6, _⟩ => ⟨S512x1536, .bf16⟩
  | .local _ .vmem, ⟨7, _⟩ => ⟨S512x1152, .fp8e4m3⟩
  | .local _ .vmem, ⟨8, _⟩ => ⟨S512x1152, .fp8e4m3⟩
  | .local _ .vmem, ⟨9, _⟩ => ⟨S1x1x512, .f32⟩
  | .local _ .vmem, ⟨10, _⟩ => ⟨S1x1x512, .f32⟩
  | .local _ .vmem, ⟨11, _⟩ => ⟨S512x128, .f32⟩
  | _, _ => ⟨S4x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "inv_d" => some ((1 / 1152 : ℝ) : EReal)
  | _ => none
-- ==== ReferenceIdeal.lean ====
abbrev S4x1024x1152 : Shape := ⟨3, ![4, 1024, 1152]⟩
abbrev S1152 : Shape := ⟨1, ![1152]⟩
abbrev S1536x1152 : Shape := ⟨2, ![1536, 1152]⟩
abbrev S1536 : Shape := ⟨1, ![1536]⟩
abbrev S4096x1152 : Shape := ⟨2, ![4096, 1152]⟩
abbrev S1x1152 : Shape := ⟨2, ![1, 1152]⟩
abbrev S1x1536 : Shape := ⟨2, ![1, 1536]⟩
abbrev S4096x1536 : Shape := ⟨2, ![4096, 1536]⟩
abbrev S4x1x1024 : Shape := ⟨3, ![4, 1, 1024]⟩
abbrev S4096 : Shape := ⟨1, ![4096]⟩
abbrev S4096x1 : Shape := ⟨2, ![4096, 1]⟩

abbrev nBuf : Space → Nat
  | .hbm => 10
  | .vmem => 7
  | .smem => 0
  | _ => 0

abbrev bufTy : (tb : Table) → Fin (tcTables nBuf tb) → BufTy
  | .hbm, ⟨0, _⟩ => ⟨S4x1024x1152, .bf16⟩
  | .hbm, ⟨1, _⟩ => ⟨S1152, .bf16⟩
  | .hbm, ⟨2, _⟩ => ⟨S1536x1152, .fp8e4m3⟩
  | .hbm, ⟨3, _⟩ => ⟨S1536, .f32⟩
  | .hbm, ⟨4, _⟩ => ⟨S4096x1152, .bf16⟩
  | .hbm, ⟨5, _⟩ => ⟨S1x1152, .bf16⟩
  | .hbm, ⟨6, _⟩ => ⟨S1x1536, .f32⟩
  | .hbm, ⟨7, _⟩ => ⟨S4096x1536, .bf16⟩
  | .hbm, ⟨8, _⟩ => ⟨S4096x1152, .fp8e4m3⟩
  | .hbm, ⟨9, _⟩ => ⟨S4x1x1024, .f32⟩
  | .local _ .vmem, ⟨0, _⟩ => ⟨S4096x1152, .bf16⟩
  | .local _ .vmem, ⟨1, _⟩ => ⟨S1x1152, .bf16⟩
  | .local _ .vmem, ⟨2, _⟩ => ⟨S1536x1152, .fp8e4m3⟩
  | .local _ .vmem, ⟨3, _⟩ => ⟨S1x1536, .f32⟩
  | .local _ .vmem, ⟨4, _⟩ => ⟨S4096x1536, .bf16⟩
  | .local _ .vmem, ⟨5, _⟩ => ⟨S4096x1152, .fp8e4m3⟩
  | .local _ .vmem, ⟨6, _⟩ => ⟨S4x1x1024, .f32⟩
  | _, _ => ⟨S4x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1152 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.RowMath.lean ====
/-
  One row of the problem, in extended reals: the RMS norm, the row's scale as the kernel computes it (from the exponent
  field it counts out) and as the reference computes it (from the logarithm), and that the two agree on every row whose
  q is 0 or in the normal range.
-/
module

public import Idealize.ShloMosaic.Lib.IdealHost
public import Idealize.ShloMosaic.Lib.IndicatorCount
public import Idealize.ShloMosaic.PureOps.Ideal.Laws

@[expose] public section

noncomputable section

namespace Cert.Row

open Idealize.ShloMosaic

/-- A row of 1152 extended reals. -/
abbrev Row := Fin 1152 → EReal

/-- The row after the RMS norm: x / sqrt(mean(x^2) + eps) * gamma. -/
def norm (x g : Row) : Row := fun k =>
  x k * Ideal.rsqrt ((∑ j, x j * x j) * ((1 / 1152 : ℝ) : EReal) + Ideal.ofBits .f32 0x358637BD#32) * g k

/-- The largest magnitude of the row. -/
def amax (h : Row) : EReal := Finset.univ.fold max (Ideal.ofBits .f32 0xFF800000#32) fun k => max (h k) (-(h k))

/-- q: the largest magnitude times the constant that stands for 1 / 448. -/
def q (h : Row) : EReal := amax h * Ideal.ofBits .f32 0x3B124925#32

/-- The word of the power of two with exponent field `f`. -/
def field (f : ℕ) : BitVec 32 := BitVec.ofNat 32 f <<< 23

/-- How many of the 256 exponent fields name a value that `x` is not below. -/
def count (x : EReal) : ℕ := (Finset.univ.filter fun f : Fin 256 => ¬ x < Ideal.ofBits .f32 (field f.val)).card

/-- The kernel's scale as a word: one if q is 0, else one exponent above q's. -/
def sbits (x : EReal) : BitVec 32 :=
  if x = 0 then 1065353216#32 else (BitVec.ofNat 32 (count x) - 1#32) <<< 23 + 8388608#32

/-- The kernel's scale. -/
def scale (x : EReal) : EReal := Ideal.ofBits .f32 (sbits x)

/-- The kernel's inverse scale. -/
def inv (x : EReal) : EReal := Ideal.ofBits .f32 (2130706432#32 - sbits x)

/-- The kernel's code before the cast to fp8, which at the extended reals is the identity. -/
def code (h : Row) (k : Fin 1152) : EReal :=
  min (max (h k * inv (q h)) (Ideal.ofBits .f32 0xC3E00000#32)) (Ideal.ofBits .f32 0x43E00000#32)

/-- The reference's exponent: frexp's, written with a logarithm, and 0 on a row of zeros. -/
def expo (h : Row) : EReal :=
  if amax h = 0 then 0
  else Ideal.liftRound Int.floor (Ideal.div (Ideal.log (q h)) (Ideal.log (Ideal.ofBits .f32 0x40000000#32))) + 1

/-- What the precondition says of a row's q. -/
def InRange (x : EReal) : Prop :=
  x = 0 ∨ (Ideal.ofBits .f32 0x00800000#32 ≤ x ∧ x < Ideal.ofBits .f32 0x7E800000#32)

/-- The fields of the word `field f`: sign 0, exponent `f`, fraction 0. -/
theorem field_parts : ∀ f : Fin 256, ((field f.val).extractLsb' 31 1 == 1#1) = false ∧
    ((field f.val).extractLsb' 23 8).toNat = f.val ∧ ((field f.val).extractLsb' 0 23).toNat = 0 := by
  decide +kernel

/-- The word with exponent field 0 is 0. -/
theorem ofBits_field_zero : Ideal.ofBits .f32 (field 0) = 0 := by
  simp [field]

/-- The word with exponent field `f`, neither 0 nor 255, is 2 ^ (f - 127). -/
theorem ofBits_field (f : ℕ) (h0 : 0 < f) (h : f < 255) :
    Ideal.ofBits .f32 (field f) = (((2 : ℝ) ^ ((f : ℤ) - 127) : ℝ) : EReal) := by
  obtain ⟨h1, h2, h3⟩ := field_parts ⟨f, by omega⟩
  simp only at h1 h2 h3
  show Ideal.ieee 8 23 (field f) = _
  unfold Ideal.ieee
  simp only [show (8 + 23 : ℕ) = 31 from rfl, h1, h2, h3]
  have hne : ¬ f = 2 ^ 8 - 1 := by norm_num; omega
  have hne0 : ¬ f = 0 := by omega
  simp only [hne, hne0, if_false, Bool.false_eq_true, one_mul, Nat.add_zero]
  have e : ((f : ℤ) - (2 ^ (8 - 1) - 1) - (23 : ℕ)) = ((f : ℤ) - 127) + (-23) := by norm_num; ring
  rw [e, zpow_add₀ (by norm_num)]
  refine congrArg _ ?_
  generalize (2 : ℝ) ^ ((f : ℤ) - 127) = y
  norm_num
  ring

/-- The word with exponent field 255 is infinity. -/
theorem ofBits_field_top : Ideal.ofBits .f32 (field 255) = ⊤ := by
  obtain ⟨h1, h2, h3⟩ := field_parts ⟨255, by omega⟩
  simp only at h1 h2 h3
  show Ideal.ieee 8 23 (field 255) = _
  unfold Ideal.ieee
  simp only [show (8 + 23 : ℕ) = 31 from rfl, h1, h2, h3]
  norm_num

/-- A real between 2 ^ (n - 127) and twice that is not below exactly the fields 0 … n. -/
theorem count_of_between (r : ℝ) (n : ℕ) (hn : n < 254) (h1 : (2 : ℝ) ^ ((n : ℤ) - 127) ≤ r)
    (h2 : r < (2 : ℝ) ^ ((n : ℤ) + 1 - 127)) : count (r : EReal) = n + 1 := by
  unfold count
  have hr : 0 < r := lt_of_lt_of_le (by positivity) h1
  have : (Finset.univ.filter fun f : Fin 256 => ¬ (r : EReal) < Ideal.ofBits .f32 (field f.val))
      = Finset.univ.filter fun f : Fin 256 => f.val < n + 1 := by
    apply Finset.filter_congr
    intro f _
    by_cases hf0 : f.val = 0
    · rw [hf0, ofBits_field_zero]
      exact ⟨fun _ => by omega, fun _ => not_lt.2 (by exact_mod_cast hr.le)⟩
    by_cases hf : f.val = 255
    · rw [hf, ofBits_field_top]
      exact ⟨fun h => absurd (EReal.coe_lt_top r) h, fun h => by omega⟩
    rw [ofBits_field f.val (by omega) (by have := f.isLt; omega), EReal.coe_lt_coe_iff, not_lt]
    constructor
    · intro h
      have := lt_of_le_of_lt h h2
      have := (zpow_lt_zpow_iff_right₀ (by norm_num : (1 : ℝ) < 2)).1 this
      omega
    · intro h
      exact le_trans (zpow_le_zpow_right₀ (by norm_num) (by omega)) h1
  rw [this]
  have : (Finset.univ.filter fun f : Fin 256 => f.val < n + 1).card = (Finset.range (n + 1)).card := by
    refine Finset.card_bij (fun f _ => f.val) (fun f hf => ?_) (fun _ _ _ _ h => Fin.ext h) (fun b hb => ?_)
    · exact Finset.mem_range.2 (Finset.mem_filter.1 hf).2
    · have := Finset.mem_range.1 hb
      exact ⟨⟨b, by omega⟩, by simp; omega, rfl⟩
  rw [this, Finset.card_range]

/-- The scale's word from the counted field, and the inverse's word from that: their exponent fields add to 254. -/
theorem words : ∀ n : Fin 253, (BitVec.ofNat 32 (n.val + 1) - 1#32) <<< 23 + 8388608#32 = field (n.val + 1) ∧
    2130706432#32 - field (n.val + 1) = field (253 - n.val) := by
  decide +kernel

/-- The word of one is the field 127, and its inverse's word is the same. -/
theorem words_one : 1065353216#32 = field 127 ∧ 2130706432#32 - field 127 = field 127 := by decide +kernel

/-- 2 ^ z as the extended real exponential reads it. -/
theorem exp2_int (z : ℤ) : Ideal.exp2 (((z : ℝ) : ℝ) : EReal) = (((2 : ℝ) ^ z : ℝ) : EReal) := by
  rw [Ideal.exp2_coe]
  congr 1
  exact Real.rpow_intCast 2 z

/-- The constant that stands for 1 / 448 is a positive real. -/
theorem c448_pos : ∃ c : ℝ, 0 < c ∧ Ideal.ofBits .f32 0x3B124925#32 = (c : EReal) := by
  refine ⟨_, ?_, by
    show Ideal.ieee 8 23 0x3B124925#32 = _
    unfold Ideal.ieee
    simp only [show ((0x3B124925#32).extractLsb' (8 + 23) 1 == 1#1) = false by decide,
      show ((0x3B124925#32).extractLsb' 23 8).toNat = 118 by decide]
    rw [if_neg (by norm_num), if_neg (by norm_num)]⟩
  simp only [Bool.false_eq_true, if_false]
  positivity

/-- The largest magnitude is 0 exactly when q is. -/
theorem amax_eq_zero_iff (h : Row) : amax h = 0 ↔ q h = 0 := by
  obtain ⟨c, hc, e⟩ := c448_pos
  unfold q
  rw [e, mul_eq_zero]
  exact ⟨Or.inl, fun h => h.resolve_right (by exact_mod_cast hc.ne')⟩

/-- The word 0x40000000 is two. -/
theorem ofBits_two : Ideal.ofBits .f32 0x40000000#32 = ((2 : ℝ) : EReal) := by
  have := ofBits_field 128 (by norm_num) (by norm_num)
  rw [show field 128 = 0x40000000#32 by decide] at this
  rw [this]; norm_num

/-- On a row whose q is not 0 and in range: with z = floor(log2 q), the kernel's words are those of 2^(z+1) and
    2^-(z+1), and the reference's exponent is z + 1. -/
theorem scale_of_pos (h : Row) (h0 : q h ≠ 0) (hr : InRange (q h)) :
    ∃ z : ℤ, scale (q h) = (((2 : ℝ) ^ z : ℝ) : EReal) ∧ inv (q h) = (((2 : ℝ) ^ (-z) : ℝ) : EReal) ∧
      expo h = ((z : ℝ) : EReal) := by
  obtain ⟨hlo, hhi⟩ := hr.resolve_left h0
  rw [show (0x00800000#32 : BitVec 32) = field 1 by decide, ofBits_field 1 (by norm_num) (by norm_num)] at hlo
  rw [show (0x7E800000#32 : BitVec 32) = field 253 by decide, ofBits_field 253 (by norm_num) (by norm_num)] at hhi
  have hamax : amax h ≠ 0 := fun e => h0 ((amax_eq_zero_iff h).1 e)
  unfold expo
  rw [if_neg hamax]
  generalize q h = x at *
  induction x with
  | bot => exact absurd hlo (by simp)
  | top => exact absurd hhi (by simp)
  | coe r =>
    rw [EReal.coe_le_coe_iff] at hlo
    rw [EReal.coe_lt_coe_iff] at hhi
    have hpos : 0 < r := lt_of_lt_of_le (by positivity) hlo
    have hl2 : 0 < Real.log 2 := Real.log_pos (by norm_num)
    obtain ⟨z, hz⟩ : ∃ z : ℤ, z = ⌊Real.log r * (1 / Real.log 2)⌋ := ⟨_, rfl⟩
    have hz1 : (2 : ℝ) ^ z ≤ r := by
      rw [← Real.log_le_log_iff (by positivity) hpos, Real.log_zpow, ← le_div_iff₀ hl2, ← mul_one_div, hz]
      exact Int.floor_le _
    have hz2 : r < (2 : ℝ) ^ (z + 1) := by
      rw [← Real.log_lt_log_iff hpos (by positivity), Real.log_zpow, ← div_lt_iff₀ hl2, ← mul_one_div, hz]
      push_cast
      exact Int.lt_floor_add_one _
    have hzlo : -126 ≤ z := by
      have := (zpow_lt_zpow_iff_right₀ (by norm_num : (1 : ℝ) < 2)).1 (lt_of_le_of_lt hlo hz2)
      norm_num at this; omega
    have hzhi : z < 126 := by
      have := (zpow_lt_zpow_iff_right₀ (by norm_num : (1 : ℝ) < 2)).1 (lt_of_le_of_lt hz1 hhi)
      norm_num at this; omega
    obtain ⟨n, hn⟩ : ∃ n : ℕ, (n : ℤ) = z + 127 := ⟨(z + 127).toNat, by omega⟩
    have hcount : count (r : EReal) = n + 1 := by
      refine count_of_between r n (by omega) ?_ ?_
      · rw [show (n : ℤ) - 127 = z by omega]; exact hz1
      · rw [show (n : ℤ) + 1 - 127 = z + 1 by omega]; exact hz2
    obtain ⟨w1, w2⟩ := words ⟨n, by omega⟩
    simp only at w1 w2
    have hs : sbits (r : EReal) = field (n + 1) := by unfold sbits; rw [if_neg h0, hcount, w1]
    refine ⟨z + 1, ?_, ?_, ?_⟩
    · unfold scale
      rw [hs, ofBits_field (n + 1) (by omega) (by omega)]
      congr 2; push_cast; omega
    · unfold inv
      rw [hs, w2, ofBits_field (253 - n) (by omega) (by omega)]
      congr 2; omega
    · rw [ofBits_two, Ideal.log_coe, Ideal.log_coe, if_neg (not_le.2 hpos), if_neg (by norm_num),
        Ideal.div_coe (Real.log_pos (by norm_num)).ne', ← EReal.coe_mul, Ideal.liftRound_coe]
      rw [← hz]
      push_cast
      rfl

/-- THE SCALE: on a row in range, the scale the kernel builds from the counted exponent field is the power of two the
    reference raises. -/
theorem scale_eq (h : Row) (hr : InRange (q h)) : scale (q h) = Ideal.exp2 (expo h) := by
  by_cases h0 : q h = 0
  · have : expo h = (((0 : ℤ) : ℝ) : EReal) := by unfold expo; rw [if_pos ((amax_eq_zero_iff h).2 h0)]; simp
    rw [this, exp2_int]
    unfold scale sbits
    rw [if_pos h0, words_one.1, ofBits_field 127 (by norm_num) (by norm_num)]
    norm_num
  · obtain ⟨z, h1, -, h3⟩ := scale_of_pos h h0 hr
    rw [h1, h3, exp2_int]

/-- … and its inverse is the reference's inverse. -/
theorem inv_eq (h : Row) (hr : InRange (q h)) : inv (q h) = Ideal.exp2 (0 - expo h) := by
  by_cases h0 : q h = 0
  · have : expo h = (((0 : ℤ) : ℝ) : EReal) := by unfold expo; rw [if_pos ((amax_eq_zero_iff h).2 h0)]; simp
    have e : (0 : EReal) - (((0 : ℤ) : ℝ) : EReal) = (((0 : ℤ) : ℝ) : EReal) := by simp
    rw [this, e, exp2_int]
    unfold inv sbits
    rw [if_pos h0, words_one.1, words_one.2, ofBits_field 127 (by norm_num) (by norm_num)]
    norm_num
  · obtain ⟨z, -, h2, h3⟩ := scale_of_pos h h0 hr
    have e : (0 : EReal) - ((z : ℝ) : EReal) = (((-z : ℤ) : ℝ) : EReal) := by
      rw [zero_sub, ← EReal.coe_neg]; push_cast; rfl
    rw [h2, h3, e, exp2_int]

/-- The word 0x44900000 is 1152, and dividing by it is multiplying by 1 / 1152. -/
theorem div_1152 (x : EReal) : Ideal.div x (Ideal.ofBits .f32 0x44900000#32) = x * ((1 / 1152 : ℝ) : EReal) := by
  have : Ideal.ofBits .f32 0x44900000#32 = ((1152 : ℝ) : EReal) := by
    show Ideal.ieee 8 23 0x44900000#32 = _
    unfold Ideal.ieee
    simp only [show ((0x44900000#32).extractLsb' (8 + 23) 1 == 1#1) = false by decide,
      show ((0x44900000#32).extractLsb' 23 8).toNat = 137 by decide,
      show ((0x44900000#32).extractLsb' 0 23).toNat = 1048576 by decide]
    rw [if_neg (by norm_num), if_neg (by norm_num)]
    congr 1
    norm_num
  rw [this, Ideal.div_coe (by norm_num)]

end Cert.Row

end
-- ==== Proof.KernelChunk.lean ====
/-
  What one 32-row chunk of the kernel's quantise step computes, read row by row: the codes it stores and the scale it
  stores across the 128 lanes. The first chunk's payloads are taken as the definition; every other chunk's are the same
  function of its own rows (KernelBlock.lean).
-/
module

public import proofs.«01_k».proof.Proof.RowMath
public import proofs.«01_k».proof.Proof.Gen.KernelIdeal.Skeleton
public import Idealize.ShloMosaic.Lib.Pointwise

@[expose] public section

noncomputable section

namespace Cert.KernelIdeal.Chunk

open Cert.KernelIdeal Cert.KernelIdeal.Gen Idealize.ShloMosaic

section
variable {F : FTy → Type} [FloatOps F] [Named F]

/-- The codes one chunk stores, from gamma and the chunk's rows. -/
def codes (g : Vec F S1x1152 .bf16) (X : Vec F S32x1152 .bf16) : FVec F S32x1152 .fp8e4m3 :=
  k0_pay8 (k0_pay3 g X) (k0_pay5 g X) (k0_pay6 g X)

/-- The scales one chunk stores, each across the lanes. -/
def scales (g : Vec F S1x1152 .bf16) (X : Vec F S32x1152 .bf16) : FVec F S32x128 .f32 :=
  k0_pay9 (k0_pay5 g X) (k0_pay6 g X)

end

/-- Row `r` of an array of rows of 1152. -/
abbrev row {n : ℕ} (X : (⟨2, ![n, 1152]⟩ : Shape).Idx → EReal) (r : Fin n) : Row.Row := fun k => X (ix2 r k)

/-- The kernel's named constant is 1 / 1152. -/
theorem named_inv_d : Named.named (F := Ideal) κ "inv_d" (φ := .f32) 0x3A638E39#32 = ((1 / 1152 : ℝ) : EReal) :=
  IdealRules.named_const.ideal_named_scalar _ _ _ _ rfl

/-- A chunk's normed rows. -/
theorem pay3_apply (g : Vec Ideal S1x1152 .bf16) (X : Vec Ideal S32x1152 .bf16) (r : Fin 32) (k : Fin 1152) :
    k0_pay3 (F := Ideal) g X (ix2 r k) = Row.norm (row X r) (row g 0) k := by
  pointwise [k0_pay3, k0_pay2]
  unfold Row.norm row
  rw [← named_inv_d]

/-- A chunk's q, per row. -/
theorem pay4_apply (g : Vec Ideal S1x1152 .bf16) (X : Vec Ideal S32x1152 .bf16) (r : Fin 32) :
    k0_pay4 (F := Ideal) g X (ix2 r 0) = Row.q (Row.norm (row X r) (row g 0)) := by
  pointwise [k0_pay4]
  simp only [pay3_apply]
  rfl

/-- The count of the fields a value is not below, as the kernel sums it. -/
theorem fold_count (x : EReal) :
    Finset.fold IntOp.addi (0#32)
      (fun f : Fin 256 => if x < Ideal.ofBits FTy.f32 (IntOp.shli ArithUnit.vector (BitVec.ofNat 32 f.val) 23#32) then 0#32 else 1#32)
      Finset.univ = BitVec.ofNat 32 (Row.count x) := by
  have := IndicatorCount.fold_addi_setWidth_eq_card (w := 32)
    (fun f : Fin 256 => BitVec.ofBool (decide (¬ x < Ideal.ofBits .f32 (Row.field f.val)))) Finset.univ
  have h2 : (Finset.univ.filter fun f : Fin 256 =>
      BitVec.ofBool (decide (¬ x < Ideal.ofBits .f32 (Row.field f.val))) = 1#1).card = Row.count x := by
    unfold Row.count
    congr 1
    apply Finset.filter_congr
    intro f _
    by_cases h : x < Ideal.ofBits .f32 (Row.field f.val) <;> simp [h]
  rw [← h2, ← this]
  refine Finset.fold_congr fun f _ => ?_
  show (if x < Ideal.ofBits .f32 (Row.field f.val) then 0#32 else 1#32) = _
  by_cases h : x < Ideal.ofBits .f32 (Row.field f.val) <;> simp [h]

/-- A chunk's scale as a word, per row. -/
theorem pay7_apply (g : Vec Ideal S1x1152 .bf16) (X : Vec Ideal S32x1152 .bf16) (r : Fin 32) :
    k0_pay7 (k0_pay5 (F := Ideal) g X) (k0_pay6 (F := Ideal) g X) (ix2 r 0)
      = Row.sbits (Row.q (Row.norm (row X r) (row g 0))) := by
  pointwise [k0_pay7, k0_pay5, k0_pay6]
  simp only [pay4_apply, fold_count]
  unfold Row.sbits
  rfl

/-- THE SCALES of a chunk: row `r`'s scale in every lane. -/
theorem scales_apply (g : Vec Ideal S1x1152 .bf16) (X : Vec Ideal S32x1152 .bf16) (r : Fin 32) (l : Fin 128) :
    scales (F := Ideal) g X (ix2 r l) = Row.scale (Row.q (Row.norm (row X r) (row g 0))) := by
  pointwise [scales, k0_pay9]
  rw [pay7_apply]
  rfl

/-- THE CODES of a chunk. -/
theorem codes_apply (g : Vec Ideal S1x1152 .bf16) (X : Vec Ideal S32x1152 .bf16) (r : Fin 32) (k : Fin 1152) :
    codes (F := Ideal) g X (ix2 r k) = Row.code (Row.norm (row X r) (row g 0)) k := by
  pointwise [codes, k0_pay8]
  simp only [pay3_apply, pay7_apply]
  rfl

end Cert.KernelIdeal.Chunk

end
-- ==== Proof.KernelBlock.lean ====
/-
  What one grid point of the kernel leaves in its two intermediate buffers, as functions of the blocks it read: the
  codes' block, and the scratch of scales. Each of the sixteen chunks stores the same function of its own 32 rows.
-/
module

public import proofs.«01_k».proof.Proof.KernelChunk
public import proofs.«01_k».proof.Proof.Gen.KernelIdeal.Value
public import Idealize.ShloMosaic.Lib.WholeRead

@[expose] public section

set_option maxRecDepth 16384

noncomputable section

namespace Cert.KernelIdeal.Block

open Cert.KernelIdeal Cert.KernelIdeal.Gen Cert.KernelIdeal.Chunk Idealize.ShloMosaic Idealize.ShloMosaic.TcCoe Idealize.SL.Sem

/-- Row `r` of a block after the norm. -/
abbrev normed {n : ℕ} (x0 : (⟨2, ![n, 1152]⟩ : Shape).Idx → EReal) (x1 : Vec Ideal S1x1152 .bf16) (r : Fin n) : Row.Row :=
  Row.norm (row x0 r) (row x1 0)

/-- The codes of a block. -/
def codesOf {n : ℕ} (x0 : (⟨2, ![n, 1152]⟩ : Shape).Idx → EReal) (x1 : Vec Ideal S1x1152 .bf16) :
    (⟨2, ![n, 1152]⟩ : Shape).Idx → EReal := fun i => Row.code (normed x0 x1 (i 0)) (i 1)

/-- The scale of each row of a block. -/
def scaleOf {n : ℕ} (x0 : (⟨2, ![n, 1152]⟩ : Shape).Idx → EReal) (x1 : Vec Ideal S1x1152 .bf16) (r : Fin n) : EReal :=
  Row.scale (Row.q (normed x0 x1 r))

/-- The scratch of scales of a block: each row's scale in every lane. -/
def lanesOf (x0 : Vec Ideal S512x1152 .bf16) (x1 : Vec Ideal S1x1152 .bf16) : Vec Ideal S512x128 .f32 :=
  fun i => scaleOf x0 x1 (i 0)

section
variable (arg1 : Memref sig .tc .vmem S512x1152 .bf16) (harg1 : arg1.IsWhole) (arg2 : Memref sig .tc .vmem S1x1152 .bf16) (harg2 : arg2.IsWhole)
  (x0 : Vec Ideal S512x1152 .bf16) (x1 : Vec Ideal S1x1152 .bf16)

/-- Gamma as the body loads it. -/
abbrev ldG : Vec Ideal S1x1152 .bf16 :=
  View.readAt (Elt Ideal) arg2.view (Rect.unit ![0, 0] S1x1152.size inb_S1x1152_S1x1152_0_0).toLoadRect (harg2.unread x1)

/-- The 32 rows from row `o` as the body loads them. -/
abbrev ldX (o : ℕ) (h : ∀ a, (![o, 0] : Fin 2 → ℕ) a + S32x1152.size a ≤ S512x1152.size a) : Vec Ideal S32x1152 .bf16 :=
  View.readAt (Elt Ideal) arg1.view (Rect.unit (s := S512x1152) ![o, 0] S32x1152.size h).toLoadRect (harg1.unread x0)

/-- Gamma's one row, loaded, is gamma's one row. -/
theorem row_ldG : row (ldG arg2 harg2 x1) 0 = row x1 0 := by
  funext k
  refine (harg2.readAt_unread x1 _ _).trans (congrArg x1 ?_)
  funext a; apply Fin.ext; fin_cases a
  · rfl
  · show 0 + 1 * k.val = k.val; omega

/-- Row `r` of the 32 loaded from row `o` is row `o + r` of the block. -/
theorem row_ldX (o : ℕ) (h) (r : Fin 32) (ho : o + r.val < 512) :
    row (ldX arg1 harg1 x0 o h) r = row x0 ⟨o + r.val, ho⟩ := by
  funext k
  refine (harg1.readAt_unread x0 _ _).trans (congrArg x0 ?_)
  funext a; apply Fin.ext; fin_cases a
  · show o + 1 * r.val = o + r.val; omega
  · show 0 + 1 * k.val = k.val; omega

/-- A store of a chunk's codes at row `o` stores the block's codes there. -/
theorem codes_piece (o : ℕ) (h h') (w : S32x1152.Idx → EReal) (hw : w = codes (ldG arg2 harg2 x1) (ldX arg1 harg1 x0 o h)) (x : S32x1152.Idx) :
    w x = codesOf x0 x1 ((Rect.unit (s := S512x1152) ![o, 0] S32x1152.size h').emb x) := by
  have ho : o + (x 0).val < 512 := by
    have h0 : o + 32 ≤ 512 := h 0
    have h1 : (x 0).val < 32 := (x 0).isLt
    omega
  subst hw
  obtain ⟨r, k, rfl⟩ : ∃ r k, x = ix2 (n0 := 32) (n1 := 1152) r k := ⟨x 0, x 1, eq_ix2 x⟩
  have ho : o + r.val < 512 := ho
  rw [codes_apply, row_ldG, row_ldX (ho := ho)]
  unfold codesOf normed
  have e0 : (Rect.unit (s := S512x1152) ![o, 0] S32x1152.size h').emb (ix2 r k) = ix2 (n0 := 512) (n1 := 1152) ⟨o + r.val, ho⟩ k := by
    funext a; apply Fin.ext; fin_cases a
    · show o + 1 * r.val = o + r.val; omega
    · show 0 + 1 * k.val = k.val; omega
  rw [e0]; rfl

/-- A store of a chunk's scales at row `o` stores the block's scales there. -/
theorem scales_piece (o : ℕ) (h h') (w : S32x128.Idx → EReal) (hw : w = scales (ldG arg2 harg2 x1) (ldX arg1 harg1 x0 o h)) (x : S32x128.Idx) :
    w x = lanesOf x0 x1 ((Rect.unit (s := S512x128) ![o, 0] S32x128.size h').emb x) := by
  have ho : o + (x 0).val < 512 := by
    have h0 : o + 32 ≤ 512 := h 0
    have h1 : (x 0).val < 32 := (x 0).isLt
    omega
  subst hw
  obtain ⟨r, k, rfl⟩ : ∃ r k, x = ix2 (n0 := 32) (n1 := 128) r k := ⟨x 0, x 1, eq_ix2 x⟩
  have ho : o + r.val < 512 := ho
  rw [scales_apply, row_ldG, row_ldX (ho := ho)]
  unfold lanesOf scaleOf normed
  have e0 : (Rect.unit (s := S512x128) ![o, 0] S32x128.size h').emb (ix2 r k) = ix2 (n0 := 512) (n1 := 128) ⟨o + r.val, ho⟩ k := by
    funext a; apply Fin.ext; fin_cases a
    · show o + 1 * r.val = o + r.val; omega
    · show 0 + 1 * k.val = k.val; omega
  rw [e0]; rfl

variable (c : Dev nD)

/-- Every store into the codes' buffer stores the block's codes. -/
theorem pieces_codes : ∀ p ∈ kernelRun0_A.sl.H5_16 (F := Ideal) c arg1 harg1 arg2 harg2 x0 x1, ∀ x : p.1.shape.Idx,
    p.2 x = codesOf x0 x1 (p.1.emb x) := by
  unfold kernelRun0_A.sl.H5_16
  simp only [List.forall_mem_cons, List.not_mem_nil, false_imp_iff, implies_true, and_true]
  exact ⟨codes_piece arg1 harg1 arg2 harg2 x0 x1 480 inb_S512x1152_S32x1152_480_0 _ _ rfl,
    codes_piece arg1 harg1 arg2 harg2 x0 x1 448 inb_S512x1152_S32x1152_448_0 _ _ rfl,
    codes_piece arg1 harg1 arg2 harg2 x0 x1 416 inb_S512x1152_S32x1152_416_0 _ _ rfl,
    codes_piece arg1 harg1 arg2 harg2 x0 x1 384 inb_S512x1152_S32x1152_384_0 _ _ rfl,
    codes_piece arg1 harg1 arg2 harg2 x0 x1 352 inb_S512x1152_S32x1152_352_0 _ _ rfl,
    codes_piece arg1 harg1 arg2 harg2 x0 x1 320 inb_S512x1152_S32x1152_320_0 _ _ rfl,
    codes_piece arg1 harg1 arg2 harg2 x0 x1 288 inb_S512x1152_S32x1152_288_0 _ _ rfl,
    codes_piece arg1 harg1 arg2 harg2 x0 x1 256 inb_S512x1152_S32x1152_256_0 _ _ rfl,
    codes_piece arg1 harg1 arg2 harg2 x0 x1 224 inb_S512x1152_S32x1152_224_0 _ _ rfl,
    codes_piece arg1 harg1 arg2 harg2 x0 x1 192 inb_S512x1152_S32x1152_192_0 _ _ rfl,
    codes_piece arg1 harg1 arg2 harg2 x0 x1 160 inb_S512x1152_S32x1152_160_0 _ _ rfl,
    codes_piece arg1 harg1 arg2 harg2 x0 x1 128 inb_S512x1152_S32x1152_128_0 _ _ rfl,
    codes_piece arg1 harg1 arg2 harg2 x0 x1 96 inb_S512x1152_S32x1152_96_0 _ _ rfl,
    codes_piece arg1 harg1 arg2 harg2 x0 x1 64 inb_S512x1152_S32x1152_64_0 _ _ rfl,
    codes_piece arg1 harg1 arg2 harg2 x0 x1 32 inb_S512x1152_S32x1152_32_0 _ _ rfl,
    codes_piece arg1 harg1 arg2 harg2 x0 x1 0 inb_S512x1152_S32x1152_0_0 _ _ rfl⟩

/-- Every store into the scratch stores the block's scales. -/
theorem pieces_scales : ∀ p ∈ kernelRun0_A.sl.HS0_16 (F := Ideal) c arg1 harg1 arg2 harg2 x0 x1, ∀ x : p.1.shape.Idx,
    p.2 x = lanesOf x0 x1 (p.1.emb x) := by
  unfold kernelRun0_A.sl.HS0_16
  simp only [List.forall_mem_cons, List.not_mem_nil, false_imp_iff, implies_true, and_true]
  exact ⟨scales_piece arg1 harg1 arg2 harg2 x0 x1 480 inb_S512x1152_S32x1152_480_0 _ _ rfl,
    scales_piece arg1 harg1 arg2 harg2 x0 x1 448 inb_S512x1152_S32x1152_448_0 _ _ rfl,
    scales_piece arg1 harg1 arg2 harg2 x0 x1 416 inb_S512x1152_S32x1152_416_0 _ _ rfl,
    scales_piece arg1 harg1 arg2 harg2 x0 x1 384 inb_S512x1152_S32x1152_384_0 _ _ rfl,
    scales_piece arg1 harg1 arg2 harg2 x0 x1 352 inb_S512x1152_S32x1152_352_0 _ _ rfl,
    scales_piece arg1 harg1 arg2 harg2 x0 x1 320 inb_S512x1152_S32x1152_320_0 _ _ rfl,
    scales_piece arg1 harg1 arg2 harg2 x0 x1 288 inb_S512x1152_S32x1152_288_0 _ _ rfl,
    scales_piece arg1 harg1 arg2 harg2 x0 x1 256 inb_S512x1152_S32x1152_256_0 _ _ rfl,
    scales_piece arg1 harg1 arg2 harg2 x0 x1 224 inb_S512x1152_S32x1152_224_0 _ _ rfl,
    scales_piece arg1 harg1 arg2 harg2 x0 x1 192 inb_S512x1152_S32x1152_192_0 _ _ rfl,
    scales_piece arg1 harg1 arg2 harg2 x0 x1 160 inb_S512x1152_S32x1152_160_0 _ _ rfl,
    scales_piece arg1 harg1 arg2 harg2 x0 x1 128 inb_S512x1152_S32x1152_128_0 _ _ rfl,
    scales_piece arg1 harg1 arg2 harg2 x0 x1 96 inb_S512x1152_S32x1152_96_0 _ _ rfl,
    scales_piece arg1 harg1 arg2 harg2 x0 x1 64 inb_S512x1152_S32x1152_64_0 _ _ rfl,
    scales_piece arg1 harg1 arg2 harg2 x0 x1 32 inb_S512x1152_S32x1152_32_0 _ _ rfl,
    scales_piece arg1 harg1 arg2 harg2 x0 x1 0 inb_S512x1152_S32x1152_0_0 _ _ rfl⟩

/-- THE CODES' BUFFER after the sixteen stores. -/
theorem canon_codes : View.canon (kernelRun0_A.sl.H5_16 (F := Ideal) c arg1 harg1 arg2 harg2 x0 x1) = codesOf x0 x1 :=
  funext fun y => View.canon_apply_of_pieces (S := S512x1152) (codesOf x0 x1) (kernelRun0_A.sl.H5_16 (F := Ideal) c arg1 harg1 arg2 harg2 x0 x1) (pieces_codes arg1 harg1 arg2 harg2 x0 x1 c) y
    (View.cover_of_tiledL (kernelRun0_A.sl.H5_16 (F := Ideal) c arg1 harg1 arg2 harg2 x0 x1) S32x1152.size (by sl_kernel_rfl) y)

/-- THE SCRATCH after the sixteen stores. -/
theorem canon_scales : View.canon (kernelRun0_A.sl.HS0_16 (F := Ideal) c arg1 harg1 arg2 harg2 x0 x1)
    = lanesOf x0 x1 :=
  funext fun y => View.canon_apply_of_pieces (S := S512x128) (lanesOf x0 x1) (kernelRun0_A.sl.HS0_16 (F := Ideal) c arg1 harg1 arg2 harg2 x0 x1) (pieces_scales arg1 harg1 arg2 harg2 x0 x1 c) y
    (View.cover_of_tiledL (kernelRun0_A.sl.HS0_16 (F := Ideal) c arg1 harg1 arg2 harg2 x0 x1) S32x128.size (by sl_kernel_rfl) y)

end

end Cert.KernelIdeal.Block

end
-- ==== Proof.KernelOut.lean ====
/-
  What one grid point of the kernel writes to its three outputs, as functions of the blocks it read.
-/
module

public import proofs.«01_k».proof.Proof.KernelBlock

@[expose] public section

set_option maxRecDepth 16384

noncomputable section

namespace Cert.KernelIdeal.Block

open Cert.KernelIdeal Cert.KernelIdeal.Gen Cert.KernelIdeal.Chunk Idealize.ShloMosaic Idealize.ShloMosaic.TcCoe Idealize.SL.Sem

/-- The linear layer on a block: the codes against the weight codes, times the row's scale, times the column's. -/
def linearOf {n : ℕ} (x0 : (⟨2, ![n, 1152]⟩ : Shape).Idx → EReal) (x1 : Vec Ideal S1x1152 .bf16) (x2 : Vec Ideal S1536x1152 .fp8e4m3)
    (x3 : Vec Ideal S1x1536 .f32) : (⟨2, ![n, 1536]⟩ : Shape).Idx → EReal := fun i =>
  (∑ k : Fin 1152, codesOf x0 x1 (ix2 (i 0) k) * x2 (ix2 (n0 := 1536) (i 1) k)) * scaleOf x0 x1 (i 0) * x3 (ix2 (n0 := 1) (n1 := 1536) 0 (i 1))

/-- The last payload: the product scaled by row and by column. -/
theorem pay113_apply (q : Vec Ideal S512x1152 .fp8e4m3) (w : Vec Ideal S1536x1152 .fp8e4m3) (s : Vec Ideal S512x1 .f32) (ws : Vec Ideal S1x1536 .f32)
    (r : Fin 512) (n : Fin 1536) :
    k0_pay113 (F := Ideal) q w s ws (ix2 r n) = (∑ k : Fin 1152, q (ix2 r k) * w (ix2 n k)) * s (ix2 r 0) * ws (ix2 0 n) := by
  pointwise [k0_pay113]

/-- The row of scales a point writes: the scratch's first lane, laid along the row. -/
theorem pay1_apply (s : Vec Ideal S512x128 .f32) (r : Fin 512) :
    k0_pay1 (F := Ideal) s (ix3 0 0 r) = s (ix2 r 0) := by
  pointwise [k0_pay1]

section
variable (c : Dev nD) (i : grid0.Coords) (arg1 : Memref sig .tc .vmem S512x1152 .bf16) (harg1 : arg1.IsWhole) (arg2 : Memref sig .tc .vmem S1x1152 .bf16) (harg2 : arg2.IsWhole) (arg3 : Memref sig .tc .vmem S1536x1152 .fp8e4m3) (harg3 : arg3.IsWhole) (arg4 : Memref sig .tc .vmem S1x1536 .f32) (harg4 : arg4.IsWhole) (arg5 : Memref sig .tc .vmem S512x1536 .bf16) (harg5 : arg5.IsWhole) (arg6 : Memref sig .tc .vmem S512x1152 .fp8e4m3) (harg6 : arg6.IsWhole) (arg7 : Memref sig .tc .vmem S1x1x512 .f32) (harg7 : arg7.IsWhole) (arg8 : Memref sig .tc .vmem S512x128 .f32) (harg8 : arg8.IsWhole)
    (x0 : Vec Ideal S512x1152 .bf16) (x1 : Vec Ideal S1x1152 .bf16) (x2 : Vec Ideal S1536x1152 .fp8e4m3) (x3 : Vec Ideal S1x1536 .f32)

/-- THE CODES a point writes. -/
theorem out5_eq : out0_A_5 (F := Ideal) c i arg1 harg1 arg2 harg2 arg3 harg3 arg4 harg4 arg5 harg5 arg6 harg6 arg7 harg7 arg8 harg8 x0 x1 x2 x3
    = codesOf x0 x1 := by
  unfold out0_A_5
  rw [View.read_writes_junk_eq_canon]
  exact canon_codes arg1 harg1 arg2 harg2 x0 x1 c

/-- The codes read back for the product. -/
theorem v931_eq : kernelRun0_A.sl.v931 (F := Ideal) c arg1 harg1 arg2 harg2 arg6 x0 x1 = codesOf x0 x1 := by
  unfold kernelRun0_A.sl.v931
  rw [View.readCov_eq_canon', canon_codes]
  funext j
  refine congrArg (codesOf x0 x1) ?_
  funext a; apply Fin.ext; fin_cases a
  · show 0 + 1 * (j 0).val = (j 0).val; omega
  · show 0 + 1 * (j 1).val = (j 1).val; omega

/-- The scratch's first lane read back for the product. -/
theorem v935_apply (r : Fin 512) : kernelRun0_A.sl.v935 (F := Ideal) c arg1 harg1 arg2 harg2 arg8 x0 x1 (ix2 r 0) = scaleOf x0 x1 r := by
  unfold kernelRun0_A.sl.v935
  rw [View.readCov_eq_canon', canon_scales]
  show scaleOf x0 x1 _ = scaleOf x0 x1 r
  congr 1; apply Fin.ext
  show 0 + 1 * r.val = r.val; omega

/-- The whole scratch read back for the row of scales. -/
theorem v944_apply (r : Fin 512) : kernelRun0_A.sl.v944 (F := Ideal) c arg1 harg1 arg2 harg2 arg8 x0 x1 (ix2 r 0) = scaleOf x0 x1 r := by
  unfold kernelRun0_A.sl.v944
  rw [View.readCov_eq_canon', canon_scales]
  show scaleOf x0 x1 _ = scaleOf x0 x1 r
  congr 1; apply Fin.ext
  show 0 + 1 * r.val = r.val; omega

/-- THE SCALES a point writes. -/
theorem out6_eq : out0_A_6 (F := Ideal) c i arg1 harg1 arg2 harg2 arg3 harg3 arg4 harg4 arg5 harg5 arg6 harg6 arg7 harg7 arg8 harg8 x0 x1 x2 x3
    = fun j => scaleOf x0 x1 (n := 512) (j 2) := by
  unfold out0_A_6
  rw [View.read_writes_junk_eq_canon]
  have e : (kernelRun0_A (F := Ideal) c i arg1 harg1 arg2 harg2 arg3 harg3 arg4 harg4 arg5 harg5 arg6 harg6 arg7 harg7 arg8 harg8 x0 x1 x2 x3).2.2.1
      = [⟨Rect.unit ![0,0,0] ![1,1,512] inb_S1x1x512_S1x1x512_0_0_0, k0_pay1 (kernelRun0_A.sl.v944 c arg1 harg1 arg2 harg2 arg8 x0 x1)⟩] := rfl
  rw [e]
  refine (View.canon_unit_zero (S := S1x1x512) (by funext a; fin_cases a <;> rfl) _ _).trans ?_
  funext j
  obtain ⟨a, b, r, rfl⟩ : ∃ a b r, j = ix3 (n0 := 1) (n1 := 1) (n2 := 512) a b r := ⟨j 0, j 1, j 2, eq_ix3 j⟩
  obtain rfl : a = 0 := Subsingleton.elim _ _
  obtain rfl : b = 0 := Subsingleton.elim _ _
  exact (pay1_apply _ r).trans (v944_apply c arg1 harg1 arg2 harg2 arg8 x0 x1 r)

/-- The weight codes as loaded are the weight codes. -/
theorem ldW_eq : (View.readAt (Elt Ideal) arg3.view (Rect.unit ![0, 0] S1536x1152.size inb_S1536x1152_S1536x1152_0_0).toLoadRect (harg3.unread x2) : Vec Ideal S1536x1152 .fp8e4m3) = x2 := by
  funext j
  refine (harg3.readAt_unread x2 _ _).trans (congrArg x2 ?_)
  funext a; apply Fin.ext; fin_cases a
  · show 0 + 1 * (j 0).val = (j 0).val; omega
  · show 0 + 1 * (j 1).val = (j 1).val; omega

/-- The column scales as loaded are the column scales. -/
theorem ldS_eq : (View.readAt (Elt Ideal) arg4.view (Rect.unit ![0, 0] S1x1536.size inb_S1x1536_S1x1536_0_0).toLoadRect (harg4.unread x3) : Vec Ideal S1x1536 .f32) = x3 := by
  funext j
  refine (harg4.readAt_unread x3 _ _).trans (congrArg x3 ?_)
  funext a; apply Fin.ext; fin_cases a
  · show 0 + 1 * (j 0).val = (j 0).val; omega
  · show 0 + 1 * (j 1).val = (j 1).val; omega

/-- THE LINEAR LAYER'S block a point writes. -/
theorem out4_eq : out0_A_4 (F := Ideal) c i arg1 harg1 arg2 harg2 arg3 harg3 arg4 harg4 arg5 harg5 arg6 harg6 arg7 harg7 arg8 harg8 x0 x1 x2 x3
    = linearOf x0 x1 x2 x3 := by
  unfold out0_A_4
  rw [View.read_writes_junk_eq_canon]
  have e : (kernelRun0_A (F := Ideal) c i arg1 harg1 arg2 harg2 arg3 harg3 arg4 harg4 arg5 harg5 arg6 harg6 arg7 harg7 arg8 harg8 x0 x1 x2 x3).1
      = [⟨Rect.unit ![0,0] ![512,1536] inb_S512x1536_S512x1536_0_0,
          kernelRun0_A.sl.r_41 c arg1 harg1 arg2 harg2 arg3 harg3 arg4 harg4 arg6 arg8 x0 x1 x2 x3⟩] := rfl
  rw [e]
  refine (View.canon_unit_zero (S := S512x1536) (by funext a; fin_cases a <;> rfl) _ _).trans ?_
  unfold kernelRun0_A.sl.r_41
  rw [v931_eq, ldW_eq, ldS_eq]
  funext j
  obtain ⟨r, n, rfl⟩ : ∃ r n, j = ix2 (n0 := 512) (n1 := 1536) r n := ⟨j 0, j 1, eq_ix2 j⟩
  refine (pay113_apply _ _ _ _ r n).trans ?_
  rw [v935_apply]
  rfl

end

end Cert.KernelIdeal.Block

end
-- ==== Proof.KernelArray.lean ====
/-
  What the kernel's three result arrays hold after the grid's eight points, as functions of the arrays the region finds:
  point `t` writes the block of rows 512 t … 512 t + 511 of each, and the blocks tile the arrays.
-/
module

public import proofs.«01_k».proof.Proof.KernelOut

@[expose] public section

set_option maxRecDepth 16384

noncomputable section

namespace Cert.KernelIdeal.Array

open Cert.KernelIdeal Cert.KernelIdeal.Gen Cert.KernelIdeal.Chunk Cert.KernelIdeal.Block Idealize.ShloMosaic Idealize.ShloMosaic.TcCoe Idealize.SL.Sem
open Idealize.ShloMosaic.Pipeline (Dat)

variable (m : (ℓ : Loc nD τ sig) → Buf (Elt Ideal) ℓ) (c : Dev nD)

/-- The rows, as the region finds them. -/
abbrev X0 : Vec Ideal S4096x1152 .bf16 := V m c main_v0
/-- Gamma, as the region finds it. -/
abbrev X1 : Vec Ideal S1x1152 .bf16 := V m c main_v1
/-- The weight codes, as the region finds them. -/
abbrev X2 : Vec Ideal S1536x1152 .fp8e4m3 := V m c main_arg2
/-- The weight scales, as the region finds them. -/
abbrev X3 : Vec Ideal S1x1536 .f32 := V m c main_v2

/-- Which block each window is at, per point. -/
theorem index_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val / 2 ∧ win0_6.index t 1 = 0 ∧ win0_6.index t 2 = t.val % 2) :=
  (by decide +kernel : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val / 2 ∧ win0_6.index t 1 = 0 ∧ win0_6.index t 2 = t.val % 2))

/-- There are eight points. -/
theorem N_eq : cfg0.N = 8 := by decide +kernel

/-- Row `r` of point `t`'s block of rows is row 512 t + r. -/
theorem row_iblk0 (t : Fin cfg0.N) (r : Fin 512) (h : t.val * 512 + r.val < 4096) :
    row (n := 512) (iblk m c 0 t) r = row (X0 m c) ⟨t.val * 512 + r.val, h⟩ := by
  obtain ⟨⟨e0, e1⟩, -⟩ := index_facts t
  funext k
  show V m c main_v0 _ = V m c main_v0 _
  refine congrArg _ ?_
  funext a; apply Fin.ext; fin_cases a
  · show win0_0.index t 0 * 512 + 1 * r.val = t.val * 512 + r.val; rw [e0]; omega
  · show win0_0.index t 1 * 1152 + 1 * k.val = k.val; rw [e1]; omega

/-- Gamma's window is all of gamma. -/
theorem iblk1_eq (t : Fin cfg0.N) : (iblk m c 1 t : Vec Ideal S1x1152 .bf16) = X1 m c := by
  obtain ⟨-, ⟨e0, e1⟩, -⟩ := index_facts t
  funext j
  show V m c main_v1 _ = V m c main_v1 _
  refine congrArg _ ?_
  funext a; apply Fin.ext; fin_cases a
  · show win0_1.index t 0 * 1 + 1 * (j 0).val = (j 0).val; rw [e0]; omega
  · show win0_1.index t 1 * 1152 + 1 * (j 1).val = (j 1).val; rw [e1]; omega

/-- The weight codes' window is all of them. -/
theorem iblk2_eq (t : Fin cfg0.N) : (iblk m c 2 t : Vec Ideal S1536x1152 .fp8e4m3) = X2 m c := by
  obtain ⟨-, -, ⟨e0, e1⟩, -⟩ := index_facts t
  funext j
  show V m c main_arg2 _ = V m c main_arg2 _
  refine congrArg _ ?_
  funext a; apply Fin.ext; fin_cases a
  · show win0_2.index t 0 * 1536 + 1 * (j 0).val = (j 0).val; rw [e0]; omega
  · show win0_2.index t 1 * 1152 + 1 * (j 1).val = (j 1).val; rw [e1]; omega

/-- The weight scales' window is all of them. -/
theorem iblk3_eq (t : Fin cfg0.N) : (iblk m c 3 t : Vec Ideal S1x1536 .f32) = X3 m c := by
  obtain ⟨-, -, -, ⟨e0, e1⟩, -⟩ := index_facts t
  funext j
  show V m c main_v2 _ = V m c main_v2 _
  refine congrArg _ ?_
  funext a; apply Fin.ext; fin_cases a
  · show win0_3.index t 0 * 1 + 1 * (j 0).val = (j 0).val; rw [e0]; omega
  · show win0_3.index t 1 * 1536 + 1 * (j 1).val = (j 1).val; rw [e1]; omega

/-- The normalised row `r` of point `t`'s block is the array's normalised row 512 t + r. -/
theorem normed_iblk (t : Fin cfg0.N) (r : Fin 512) (h : t.val * 512 + r.val < 4096) :
    normed (n := 512) (iblk m c 0 t) (X1 m c) r = normed (X0 m c) (X1 m c) ⟨t.val * 512 + r.val, h⟩ := by
  unfold normed
  rw [row_iblk0 m c t r h]

/-- Point `t` writes back block `t` of the whole array's codes. -/
theorem flushed5_eq (t : Fin cfg0.N) :
    (dats m 0 c).flushed 5 t = ((cfg0.win 5).blk t).view.read (Elt Ideal) (codesOf (X0 m c) (X1 m c)) := by
  have ht : t.val < 8 := N_eq ▸ t.isLt
  obtain ⟨-, -, -, -, -, ⟨e0, e1⟩, -⟩ := index_facts t
  rw [Value.flushed5_A, out5_eq, iblk1_eq]
  funext (j : S512x1152.Idx)
  obtain ⟨r, k, rfl⟩ : ∃ r k, j = ix2 r k := ⟨j 0, j 1, eq_ix2 j⟩
  have h : t.val * 512 + r.val < 4096 := by omega
  have f : ((cfg0.win 5).blk t).view.emb (ix2 r k) = ix2 (⟨t.val * 512 + r.val, h⟩ : Fin 4096) k := by
    funext a; apply Fin.ext; fin_cases a
    · show win0_5.index t 0 * 512 + 1 * r.val = t.val * 512 + r.val; rw [e0]; omega
    · show win0_5.index t 1 * 1152 + 1 * k.val = k.val; rw [e1]; omega
  show Row.code (normed (n := 512) (iblk m c 0 t) (X1 m c) r) k
      = codesOf (X0 m c) (X1 m c) (((cfg0.win 5).blk t).view.emb (ix2 r k))
  rw [f, normed_iblk m c t r h]
  rfl

/-- Point `t` writes back block `t` of the whole array's linear. -/
theorem flushed4_eq (t : Fin cfg0.N) :
    (dats m 0 c).flushed 4 t
      = ((cfg0.win 4).blk t).view.read (Elt Ideal) (linearOf (X0 m c) (X1 m c) (X2 m c) (X3 m c)) := by
  have ht : t.val < 8 := N_eq ▸ t.isLt
  obtain ⟨-, -, -, -, ⟨e0, e1⟩, -⟩ := index_facts t
  rw [Value.flushed4_A, out4_eq, iblk1_eq, iblk2_eq, iblk3_eq]
  funext (j : S512x1536.Idx)
  obtain ⟨r, k, rfl⟩ : ∃ r k, j = ix2 r k := ⟨j 0, j 1, eq_ix2 j⟩
  have h : t.val * 512 + r.val < 4096 := by omega
  have f : ((cfg0.win 4).blk t).view.emb (ix2 r k) = ix2 (⟨t.val * 512 + r.val, h⟩ : Fin 4096) k := by
    funext a; apply Fin.ext; fin_cases a
    · show win0_4.index t 0 * 512 + 1 * r.val = t.val * 512 + r.val; rw [e0]; omega
    · show win0_4.index t 1 * 1536 + 1 * k.val = k.val; rw [e1]; omega
  show linearOf (n := 512) (iblk m c 0 t) (X1 m c) (X2 m c) (X3 m c) (ix2 r k)
      = linearOf (X0 m c) (X1 m c) (X2 m c) (X3 m c) (((cfg0.win 4).blk t).view.emb (ix2 r k))
  rw [f]
  show (∑ l, Row.code (normed (n := 512) (iblk m c 0 t) (X1 m c) r) l * _)
      * Row.scale (Row.q (normed (n := 512) (iblk m c 0 t) (X1 m c) r)) * _ = _
  rw [normed_iblk m c t r h]
  rfl

/-- The row of the flat array the scale at an index of the third result belongs to. -/
abbrev rowOf (j : S4x1x1024.Idx) : Fin 4096 :=
  ⟨(j 0).val * 1024 + (j 2).val, by
    have h0 : (j 0).val < 4 := (j 0).isLt
    have h2 : (j 2).val < 1024 := (j 2).isLt
    omega⟩

/-- The third result: every row's scale, laid along the lanes. -/
def scalesOf (x0 : S4096x1152.Idx → EReal) (x1 : S1x1152.Idx → EReal) : S4x1x1024.Idx → EReal :=
  fun j => scaleOf x0 x1 (rowOf j)

/-- Point `t` writes back its block of the scales. -/
theorem flushed6_eq (t : Fin cfg0.N) :
    (dats m 0 c).flushed 6 t = ((cfg0.win 6).blk t).view.read (Elt Ideal) (scalesOf (X0 m c) (X1 m c)) := by
  have ht : t.val < 8 := N_eq ▸ t.isLt
  obtain ⟨-, -, -, -, -, -, e0, e1, e2⟩ := index_facts t
  rw [Value.flushed6_A, out6_eq, iblk1_eq]
  funext (j : S1x1x512.Idx)
  have j0 : (j 0).val < 1 := (j 0).isLt
  have j2 : (j 2).val < 512 := (j 2).isLt
  have h : t.val * 512 + (j 2).val < 4096 := by omega
  have f0 : (((cfg0.win 6).blk t).view.emb j 0).val = t.val / 2 := by
    show win0_6.index t 0 * 1 + 1 * (j 0).val = _; rw [e0]; omega
  have f2 : (((cfg0.win 6).blk t).view.emb j 2).val = t.val % 2 * 512 + (j 2).val := by
    show win0_6.index t 2 * 512 + 1 * (j 2).val = _; rw [e2]; omega
  have f : rowOf (((cfg0.win 6).blk t).view.emb j) = ⟨t.val * 512 + (j 2).val, h⟩ := by
    apply Fin.ext
    show (((cfg0.win 6).blk t).view.emb j 0).val * 1024 + (((cfg0.win 6).blk t).view.emb j 2).val = _
    rw [f0, f2]
    show _ = t.val * 512 + (j 2).val
    omega
  show Row.scale (Row.q (normed (n := 512) (iblk m c 0 t) (X1 m c) (j 2)))
      = scaleOf (X0 m c) (X1 m c) (rowOf (((cfg0.win 6).blk t).view.emb j))
  rw [f, normed_iblk m c t (j 2) h]
  rfl

/-! ## Every element is written -/

/-- An index lies in point `t`'s block of the linear exactly when its row does. -/
theorem mem_blk4 (t : Fin cfg0.N) (i : S4096x1536.Idx) :
    i ∈ ((cfg0.win 4).blk t).view.set ↔ t.val * 512 ≤ (i 0 : Nat) ∧ (i 0 : Nat) < t.val * 512 + 512 := by
  obtain ⟨-, -, -, -, ⟨e0, e1⟩, -⟩ := index_facts t
  show i ∈ ((View.whole main_v3_0).slice (win0_4.rect t)).set ↔ _
  rw [View.set_slice_whole, Rect.mem_set_unit]
  have h1 : (i 1 : Nat) < 1536 := (i 1).isLt
  refine ⟨fun h => ?_, fun h a => ?_⟩
  · have : win0_4.index t 0 * 512 ≤ (i 0 : Nat) ∧ (i 0 : Nat) < win0_4.index t 0 * 512 + 512 := h 0
    rw [e0] at this; exact this
  · match a with
    | ⟨0, _⟩ =>
      have : win0_4.index t 0 * 512 ≤ (i 0 : Nat) ∧ (i 0 : Nat) < win0_4.index t 0 * 512 + 512 := by rw [e0]; exact h
      exact this
    | ⟨1, _⟩ =>
      have : win0_4.index t 1 * 1536 ≤ (i 1 : Nat) ∧ (i 1 : Nat) < win0_4.index t 1 * 1536 + 1536 := by
        rw [e1, Nat.zero_mul, Nat.zero_add]; exact ⟨Nat.zero_le _, h1⟩
      exact this

/-- An index lies in point `t`'s block of the codes exactly when its row does. -/
theorem mem_blk5 (t : Fin cfg0.N) (i : S4096x1152.Idx) :
    i ∈ ((cfg0.win 5).blk t).view.set ↔ t.val * 512 ≤ (i 0 : Nat) ∧ (i 0 : Nat) < t.val * 512 + 512 := by
  obtain ⟨-, -, -, -, -, ⟨e0, e1⟩, -⟩ := index_facts t
  show i ∈ ((View.whole main_v3_1).slice (win0_5.rect t)).set ↔ _
  rw [View.set_slice_whole, Rect.mem_set_unit]
  have h1 : (i 1 : Nat) < 1152 := (i 1).isLt
  refine ⟨fun h => ?_, fun h a => ?_⟩
  · have : win0_5.index t 0 * 512 ≤ (i 0 : Nat) ∧ (i 0 : Nat) < win0_5.index t 0 * 512 + 512 := h 0
    rw [e0] at this; exact this
  · match a with
    | ⟨0, _⟩ =>
      have : win0_5.index t 0 * 512 ≤ (i 0 : Nat) ∧ (i 0 : Nat) < win0_5.index t 0 * 512 + 512 := by rw [e0]; exact h
      exact this
    | ⟨1, _⟩ =>
      have : win0_5.index t 1 * 1152 ≤ (i 1 : Nat) ∧ (i 1 : Nat) < win0_5.index t 1 * 1152 + 1152 := by
        rw [e1, Nat.zero_mul, Nat.zero_add]; exact ⟨Nat.zero_le _, h1⟩
      exact this

/-- An index lies in point `t`'s block of the scales when the row it stands for does. -/
theorem mem_blk6 (t : Fin cfg0.N) (i : S4x1x1024.Idx)
    (h : (i 0 : Nat) = t.val / 2 ∧ t.val % 2 * 512 ≤ (i 2 : Nat) ∧ (i 2 : Nat) < t.val % 2 * 512 + 512) :
    i ∈ ((cfg0.win 6).blk t).view.set := by
  obtain ⟨-, -, -, -, -, -, e0, e1, e2⟩ := index_facts t
  show i ∈ ((View.whole main_v3_2).slice (win0_6.rect t)).set
  rw [View.set_slice_whole, Rect.mem_set_unit]
  have h1 : (i 1 : Nat) < 1 := (i 1).isLt
  intro a
  match a with
  | ⟨0, _⟩ => show win0_6.index t 0 * 1 ≤ (i 0 : Nat) ∧ (i 0 : Nat) < win0_6.index t 0 * 1 + 1; rw [e0]; omega
  | ⟨1, _⟩ => show win0_6.index t 1 * 1 ≤ (i 1 : Nat) ∧ (i 1 : Nat) < win0_6.index t 1 * 1 + 1; rw [e1]; omega
  | ⟨2, _⟩ => show win0_6.index t 2 * 512 ≤ (i 2 : Nat) ∧ (i 2 : Nat) < win0_6.index t 2 * 512 + 512; rw [e2]; omega

/-- The first result holds the whole array's linear. -/
theorem arr4_eq : (dats m 0 c).arrAt 4 cfg0.N = linearOf (X0 m c) (X1 m c) (X2 m c) (X3 m c) := by
  refine Dat.arrAt_eq_of_cover (dats m 0 c) 4 _ (fun t _ => flushed4_eq m c t) (fun (i : S4096x1536.Idx) => ?_)
  have h0 : (i 0 : Nat) < 4096 := (i 0).isLt
  have ht : (i 0 : Nat) / 512 < cfg0.N := by rw [N_eq]; omega
  refine ⟨⟨(i 0 : Nat) / 512, ht⟩, flush0_4 _, ?_⟩
  rw [mem_blk4]; dsimp only; omega

/-- The second result holds the whole array's codes. -/
theorem arr5_eq : (dats m 0 c).arrAt 5 cfg0.N = codesOf (X0 m c) (X1 m c) := by
  refine Dat.arrAt_eq_of_cover (dats m 0 c) 5 _ (fun t _ => flushed5_eq m c t) (fun (i : S4096x1152.Idx) => ?_)
  have h0 : (i 0 : Nat) < 4096 := (i 0).isLt
  have ht : (i 0 : Nat) / 512 < cfg0.N := by rw [N_eq]; omega
  refine ⟨⟨(i 0 : Nat) / 512, ht⟩, flush0_5 _, ?_⟩
  rw [mem_blk5]; dsimp only; omega

/-- The third result holds every row's scale. -/
theorem arr6_eq : (dats m 0 c).arrAt 6 cfg0.N = scalesOf (X0 m c) (X1 m c) := by
  refine Dat.arrAt_eq_of_cover (dats m 0 c) 6 _ (fun t _ => flushed6_eq m c t) (fun (i : S4x1x1024.Idx) => ?_)
  have h0 : (i 0 : Nat) < 4 := (i 0).isLt
  have h2 : (i 2 : Nat) < 1024 := (i 2).isLt
  have ht : 2 * (i 0 : Nat) + (i 2 : Nat) / 512 < cfg0.N := by rw [N_eq]; omega
  refine ⟨⟨2 * (i 0 : Nat) + (i 2 : Nat) / 512, ht⟩, flush0_6 _, ?_⟩
  refine mem_blk6 _ i ?_
  dsimp only; omega

end Cert.KernelIdeal.Array

end
-- ==== Proof.RefRun.lean ====
/-
  The reference's run with its three result arrays named: what its one point writes back, and that the arguments are
  left as they were.
-/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What the one point writes back, and the arrays after the run -/

/-- What point `t` writes back to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- What point `t` writes back to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- What point `t` writes back to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v3_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_2) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run named — `(dats m 0 c).arrAt w N` —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

end Cert.ReferenceIdeal.Run

end
-- ==== Proof.RefBlock.lean ====
/-
  What the reference's body computes, read row by row: the normalised row, its exponent, its scale, its clipped values,
  and the linear over them.
-/
module

public import proofs.«01_k».proof.Proof.RowMath
public import proofs.«01_k».proof.Proof.Gen.ReferenceIdeal.Skeleton
public import Idealize.ShloMosaic.Lib.Pointwise

@[expose] public section

noncomputable section

namespace Cert.ReferenceIdeal.Block

open Cert.ReferenceIdeal Cert.ReferenceIdeal.Gen Idealize.ShloMosaic

/-- Row `r` of an array of rows of 1152. -/
abbrev row {n : ℕ} (X : (⟨2, ![n, 1152]⟩ : Shape).Idx → EReal) (r : Fin n) : Row.Row := fun k => X (ix2 r k)

/-- A row's scale as the reference spells it: two to the row's exponent. -/
def refScale (h : Row.Row) : EReal := Ideal.exp2 (Row.expo h)

/-- A row's code as the reference spells it: the value times two to minus the row's exponent, clipped. -/
def refCode (h : Row.Row) (k : Fin 1152) : EReal :=
  min (Ideal.ofBits .f32 0x43E00000#32) (max (Ideal.ofBits .f32 0xC3E00000#32) (h k * Ideal.exp2 (0 - Row.expo h)))

variable (x : Vec Ideal S4096x1152 .bf16) (g : Vec Ideal S1x1152 .bf16)

/-- The normalised rows. -/
theorem pay4_apply (r : Fin 4096) (k : Fin 1152) : k0_pay4 (F := Ideal) x g (ix2 r k) = Row.norm (row x r) (row g 0) k := by
  pointwise [k0_pay4]
  simp only [Row.div_1152]
  rfl

/-- Each row's largest magnitude, as the body computes it. -/
def amaxV : FVec Ideal S4096x1 .f32 :=
  shapeCast S4096x1 (multiReduction .maximumf [1] S4096 (absf (k0_pay4 x g)) 0xFF800000#32 reduces_S4096x1152_S4096 (.inl rfl) rfl)
    shapeCasts_S4096_S4096x1

/-- It is the row's largest magnitude. -/
theorem amaxV_apply (r : Fin 4096) : amaxV x g (ix2 r 0) = Row.amax (Row.norm (row x r) (row g 0)) := by
  pointwise [amaxV]
  simp only [pay4_apply]
  rfl

/-- A choice on equality with zero. -/
theorem select_eq_zero (a b c : EReal) : Scalar.select (Ideal.cmp .oeq a 0) b c = if a = 0 then b else c := by
  by_cases h : a = 0 <;> simp [Scalar.select, Ideal.cmp, h]

/-- Each row's exponent. -/
theorem pay5_apply (r : Fin 4096) : k0_pay5 (F := Ideal) x g (ix2 r 0) = Row.expo (Row.norm (row x r) (row g 0)) := by
  unfold k0_pay5
  change select (cmpf .oeq (amaxV x g) _) _ (addf (floor (divf (log (mulf (amaxV x g) _)) _)) _) (ix2 r 0) = _
  rw [ValueIdx.select_apply, ValueIdx.cmpf_apply, addf_apply, floor_apply, divf_apply, log_apply, mulf_apply, amaxV_apply]
  generalize Row.norm (row x r) (row g 0) = h
  simp only [broadcast]
  unfold Row.expo Row.q
  rw [← select_eq_zero, ← Ideal.ofBits_zero_f32, ← Ideal.ofBits_one_f32]
  rfl

/-- Each row's scale. -/
theorem pay6_apply (r : Fin 4096) : k0_pay6 (F := Ideal) x g (ix2 r 0) = refScale (Row.norm (row x r) (row g 0)) := by
  unfold k0_pay6
  rw [exp2_apply, pay5_apply]
  generalize Row.norm (row x r) (row g 0) = h
  rfl

/-- Each row's clipped values. -/
theorem pay7_apply (r : Fin 4096) (k : Fin 1152) :
    k0_pay7 (F := Ideal) x g (ix2 r k) = refCode (Row.norm (row x r) (row g 0)) k := by
  have e : ∀ v : FVec Ideal S4096x1 .f32, broadcastTo S4096x1152 v broadcasts_S4096x1_S4096x1152 (ix2 r k) = v (ix2 r 0) := by
    intro v
    pointwise
  unfold k0_pay7
  rw [minimumf_apply, maximumf_apply, mulf_apply, e, exp2_apply, subf_apply, pay5_apply, pay4_apply]
  generalize Row.norm (row x r) (row g 0) = h
  simp only [broadcast]
  unfold refCode
  rw [← Ideal.ofBits_zero_f32]
  rfl

/-- The linear over given scales and clipped values. -/
theorem pay2_apply (s : FVec Ideal S4096x1 .f32) (v : FVec Ideal S4096x1152 .f32) (w : Vec Ideal S1536x1152 .fp8e4m3)
    (ws : Vec Ideal S1x1536 .f32) (r : Fin 4096) (o : Fin 1536) :
    k0_pay2 (F := Ideal) s v w ws (ix2 r o) = (∑ k, v (ix2 r k) * w (ix2 o k)) * s (ix2 r 0) * ws (ix2 0 o) := by
  pointwise [k0_pay2, k0_pay1]

/-- The scales laid along the lanes. -/
theorem pay3_apply (s : FVec Ideal S4096x1 .f32) (a : Fin 4) (b : Fin 1) (c : Fin 1024) (h : a.val * 1024 + c.val < 4096) :
    k0_pay3 (F := Ideal) s (ix3 a b c) = s (ix2 ⟨a.val * 1024 + c.val, h⟩ 0) := by
  pointwise [k0_pay3]

end Cert.ReferenceIdeal.Block

end
-- ==== Proof.RefArray.lean ====
/-
  What the reference's three result arrays hold, as functions of the arrays its one point reads whole.
-/
module

public import proofs.«01_k».proof.Proof.RefRun
public import proofs.«01_k».proof.Proof.RefBlock

@[expose] public section

set_option maxRecDepth 16384

noncomputable section

namespace Cert.ReferenceIdeal.Array

open Cert.ReferenceIdeal Cert.ReferenceIdeal.Gen Cert.ReferenceIdeal.Block Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What the body leaves, from the blocks it read -/

section
variable (x0 : Vec Ideal S4096x1152 .bf16) (x1 : Vec Ideal S1x1152 .bf16) (x2 : Vec Ideal S1536x1152 .fp8e4m3) (x3 : Vec Ideal S1x1536 .f32)

/-- Row `r` after the norm. -/
abbrev normed (r : Fin 4096) : Row.Row := Row.norm (row x0 r) (row x1 0)

/-- The row of the flat array the scale at an index of the third result belongs to. -/
abbrev rowOf (j : S4x1x1024.Idx) : Fin 4096 :=
  ⟨(j 0).val * 1024 + (j 2).val, by
    have h0 : (j 0).val < 4 := (j 0).isLt
    have h2 : (j 2).val < 1024 := (j 2).isLt
    omega⟩

/-- The reference's linear. -/
def linearOf : S4096x1536.Idx → EReal :=
  fun i => (∑ k, refCode (normed x0 x1 (i 0)) k * x2 (ix2 (i 1) k)) * refScale (normed x0 x1 (i 0)) * x3 (ix2 0 (i 1))

/-- The reference's codes. -/
def codesOf : S4096x1152.Idx → EReal := fun i => refCode (normed x0 x1 (i 0)) (i 1)

/-- The reference's scales, laid along the lanes. -/
def scalesOf : S4x1x1024.Idx → EReal := fun j => refScale (normed x0 x1 (rowOf j))

/-- The linear's block. -/
theorem out4_eq : out0_4 (F := Ideal) x0 x1 x2 x3 = linearOf x0 x1 x2 x3 := by
  unfold out0_4
  rw [View.canon_unit_zero hz2]
  funext (i : S4096x1536.Idx)
  obtain ⟨r, o, rfl⟩ : ∃ r o, i = ix2 r o := ⟨i 0, i 1, eq_ix2 i⟩
  rw [pay2_apply]
  unfold k0_pay8 k0_pay9
  rw [View.ld_unit_zero hz2, View.ld_unit_zero hz2, View.ld_unit_zero hz2, View.ld_unit_zero hz2, pay6_apply]
  simp only [pay7_apply]
  rfl

/-- The codes' block. -/
theorem out5_eq : out0_5 (F := Ideal) x0 x1 x2 x3 = codesOf x0 x1 := by
  unfold out0_5
  rw [View.canon_unit_zero hz2]
  funext (i : S4096x1152.Idx)
  obtain ⟨r, k, rfl⟩ : ∃ r k, i = ix2 r k := ⟨i 0, i 1, eq_ix2 i⟩
  unfold k0_pay9
  rw [View.ld_unit_zero hz2, View.ld_unit_zero hz2]
  show k0_pay7 (F := Ideal) x0 x1 (ix2 r k) = _
  rw [pay7_apply]
  rfl

/-- The scales' block. -/
theorem out6_eq : out0_6 (F := Ideal) x0 x1 x2 x3 = scalesOf x0 x1 := by
  unfold out0_6
  rw [View.canon_unit_zero hz3]
  funext (i : S4x1x1024.Idx)
  obtain ⟨a, b, d, rfl⟩ : ∃ a b d, i = ix3 a b d := ⟨i 0, i 1, i 2, eq_ix3 i⟩
  unfold k0_pay8
  rw [View.ld_unit_zero hz2, View.ld_unit_zero hz2, pay3_apply _ a b d (by omega), pay6_apply]
  rfl

end

/-! ## The arrays -/

variable (m : (ℓ : Loc nD τ sig) → Buf (Elt Ideal) ℓ) (c : Dev nD)

/-- The rows, as the region finds them. -/
abbrev X0 : Vec Ideal S4096x1152 .bf16 := V m c main_v0
/-- Gamma, as the region finds it. -/
abbrev X1 : Vec Ideal S1x1152 .bf16 := V m c main_v1
/-- The weight codes, as the region finds them. -/
abbrev X2 : Vec Ideal S1536x1152 .fp8e4m3 := V m c main_arg2
/-- The weight scales, as the region finds them. -/
abbrev X3 : Vec Ideal S1x1536 .f32 := V m c main_v2

/-- Every window is at its array's start. -/
theorem index_facts : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) ∧ (∀ a, win0_6.index t a = 0) :=
  (by decide +kernel : ∀ t : Fin grid0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) ∧ (∀ a, win0_6.index t a = 0))

theorem N_eq : cfg0.N = 1 := by decide +kernel

/-- The point reads the whole of the rows. -/
theorem iblk0_eq (t : Fin cfg0.N) : (iblk m c 0 t : Vec Ideal S4096x1152 .bf16) = X0 m c := by
  obtain ⟨i0, i1, i2, i3, i4, i5, i6⟩ := index_facts t
  funext j
  show V m c main_v0 _ = V m c main_v0 _
  refine congrArg _ ?_
  funext a; apply Fin.ext; fin_cases a
  · show win0_0.index t 0 * 4096 + 1 * (j 0).val = (j 0).val; rw [i0]; omega
  · show win0_0.index t 1 * 1152 + 1 * (j 1).val = (j 1).val; rw [i0]; omega

/-- The point reads the whole of the gamma. -/
theorem iblk1_eq (t : Fin cfg0.N) : (iblk m c 1 t : Vec Ideal S1x1152 .bf16) = X1 m c := by
  obtain ⟨i0, i1, i2, i3, i4, i5, i6⟩ := index_facts t
  funext j
  show V m c main_v1 _ = V m c main_v1 _
  refine congrArg _ ?_
  funext a; apply Fin.ext; fin_cases a
  · show win0_1.index t 0 * 1 + 1 * (j 0).val = (j 0).val; rw [i1]; omega
  · show win0_1.index t 1 * 1152 + 1 * (j 1).val = (j 1).val; rw [i1]; omega

/-- The point reads the whole of the weight codes. -/
theorem iblk2_eq (t : Fin cfg0.N) : (iblk m c 2 t : Vec Ideal S1536x1152 .fp8e4m3) = X2 m c := by
  obtain ⟨i0, i1, i2, i3, i4, i5, i6⟩ := index_facts t
  funext j
  show V m c main_arg2 _ = V m c main_arg2 _
  refine congrArg _ ?_
  funext a; apply Fin.ext; fin_cases a
  · show win0_2.index t 0 * 1536 + 1 * (j 0).val = (j 0).val; rw [i2]; omega
  · show win0_2.index t 1 * 1152 + 1 * (j 1).val = (j 1).val; rw [i2]; omega

/-- The point reads the whole of the weight scales. -/
theorem iblk3_eq (t : Fin cfg0.N) : (iblk m c 3 t : Vec Ideal S1x1536 .f32) = X3 m c := by
  obtain ⟨i0, i1, i2, i3, i4, i5, i6⟩ := index_facts t
  funext j
  show V m c main_v2 _ = V m c main_v2 _
  refine congrArg _ ?_
  funext a; apply Fin.ext; fin_cases a
  · show win0_3.index t 0 * 1 + 1 * (j 0).val = (j 0).val; rw [i3]; omega
  · show win0_3.index t 1 * 1536 + 1 * (j 1).val = (j 1).val; rw [i3]; omega

/-- The point writes back the whole of the linear. -/
theorem flushed4_eq (t : Fin cfg0.N) :
    (dats m 0 c).flushed 4 t = ((cfg0.win 4).blk t).view.read (Elt Ideal) (linearOf (X0 m c) (X1 m c) (X2 m c) (X3 m c)) := by
  obtain ⟨i0, i1, i2, i3, i4, i5, i6⟩ := index_facts t
  rw [Run.flushed4, out4_eq, iblk0_eq, iblk1_eq, iblk2_eq, iblk3_eq]
  funext (j : S4096x1536.Idx)
  have f : ((cfg0.win 4).blk t).view.emb j = j := by
    funext a; apply Fin.ext; fin_cases a
    · show win0_4.index t 0 * 4096 + 1 * (j 0).val = (j 0).val; rw [i4]; omega
    · show win0_4.index t 1 * 1536 + 1 * (j 1).val = (j 1).val; rw [i4]; omega
  show linearOf (X0 m c) (X1 m c) (X2 m c) (X3 m c) j = linearOf (X0 m c) (X1 m c) (X2 m c) (X3 m c) (((cfg0.win 4).blk t).view.emb j)
  rw [f]

/-- The linear's array after the run. -/
theorem arr4_eq : (dats m 0 c).arrAt 4 cfg0.N = linearOf (X0 m c) (X1 m c) (X2 m c) (X3 m c) := by
  refine Dat.arrAt_eq_of_cover (dats m 0 c) 4 _ (fun t _ => flushed4_eq m c t) (fun (i : S4096x1536.Idx) => ?_)
  have ht : 0 < cfg0.N := by rw [N_eq]; omega
  refine ⟨⟨0, ht⟩, flush0_4 _, ?_⟩
  obtain ⟨i0, i1, i2, i3, i4, i5, i6⟩ := index_facts ⟨0, ht⟩
  show i ∈ ((View.whole main_v3_0).slice (win0_4.rect ⟨0, ht⟩)).set
  rw [View.set_slice_whole, Rect.mem_set_unit]
  intro a
  match a with
  | ⟨0, _⟩ =>
    have : win0_4.index ⟨0, ht⟩ 0 * 4096 ≤ (i 0 : Nat) ∧ (i 0 : Nat) < win0_4.index ⟨0, ht⟩ 0 * 4096 + 4096 := by
      rw [i4, Nat.zero_mul, Nat.zero_add]; exact ⟨Nat.zero_le _, (i 0).isLt⟩
    exact this
  | ⟨1, _⟩ =>
    have : win0_4.index ⟨0, ht⟩ 1 * 1536 ≤ (i 1 : Nat) ∧ (i 1 : Nat) < win0_4.index ⟨0, ht⟩ 1 * 1536 + 1536 := by
      rw [i4, Nat.zero_mul, Nat.zero_add]; exact ⟨Nat.zero_le _, (i 1).isLt⟩
    exact this

/-- The point writes back the whole of the codes. -/
theorem flushed5_eq (t : Fin cfg0.N) :
    (dats m 0 c).flushed 5 t = ((cfg0.win 5).blk t).view.read (Elt Ideal) (codesOf (X0 m c) (X1 m c)) := by
  obtain ⟨i0, i1, i2, i3, i4, i5, i6⟩ := index_facts t
  rw [Run.flushed5, out5_eq, iblk0_eq, iblk1_eq]
  funext (j : S4096x1152.Idx)
  have f : ((cfg0.win 5).blk t).view.emb j = j := by
    funext a; apply Fin.ext; fin_cases a
    · show win0_5.index t 0 * 4096 + 1 * (j 0).val = (j 0).val; rw [i5]; omega
    · show win0_5.index t 1 * 1152 + 1 * (j 1).val = (j 1).val; rw [i5]; omega
  show codesOf (X0 m c) (X1 m c) j = codesOf (X0 m c) (X1 m c) (((cfg0.win 5).blk t).view.emb j)
  rw [f]

/-- The codes' array after the run. -/
theorem arr5_eq : (dats m 0 c).arrAt 5 cfg0.N = codesOf (X0 m c) (X1 m c) := by
  refine Dat.arrAt_eq_of_cover (dats m 0 c) 5 _ (fun t _ => flushed5_eq m c t) (fun (i : S4096x1152.Idx) => ?_)
  have ht : 0 < cfg0.N := by rw [N_eq]; omega
  refine ⟨⟨0, ht⟩, flush0_5 _, ?_⟩
  obtain ⟨i0, i1, i2, i3, i4, i5, i6⟩ := index_facts ⟨0, ht⟩
  show i ∈ ((View.whole main_v3_1).slice (win0_5.rect ⟨0, ht⟩)).set
  rw [View.set_slice_whole, Rect.mem_set_unit]
  intro a
  match a with
  | ⟨0, _⟩ =>
    have : win0_5.index ⟨0, ht⟩ 0 * 4096 ≤ (i 0 : Nat) ∧ (i 0 : Nat) < win0_5.index ⟨0, ht⟩ 0 * 4096 + 4096 := by
      rw [i5, Nat.zero_mul, Nat.zero_add]; exact ⟨Nat.zero_le _, (i 0).isLt⟩
    exact this
  | ⟨1, _⟩ =>
    have : win0_5.index ⟨0, ht⟩ 1 * 1152 ≤ (i 1 : Nat) ∧ (i 1 : Nat) < win0_5.index ⟨0, ht⟩ 1 * 1152 + 1152 := by
      rw [i5, Nat.zero_mul, Nat.zero_add]; exact ⟨Nat.zero_le _, (i 1).isLt⟩
    exact this

/-- The point writes back the whole of the scales. -/
theorem flushed6_eq (t : Fin cfg0.N) :
    (dats m 0 c).flushed 6 t = ((cfg0.win 6).blk t).view.read (Elt Ideal) (scalesOf (X0 m c) (X1 m c)) := by
  obtain ⟨i0, i1, i2, i3, i4, i5, i6⟩ := index_facts t
  rw [Run.flushed6, out6_eq, iblk0_eq, iblk1_eq]
  funext (j : S4x1x1024.Idx)
  have f : ((cfg0.win 6).blk t).view.emb j = j := by
    funext a; apply Fin.ext; fin_cases a
    · show win0_6.index t 0 * 4 + 1 * (j 0).val = (j 0).val; rw [i6]; omega
    · show win0_6.index t 1 * 1 + 1 * (j 1).val = (j 1).val; rw [i6]; omega
    · show win0_6.index t 2 * 1024 + 1 * (j 2).val = (j 2).val; rw [i6]; omega
  show scalesOf (X0 m c) (X1 m c) j = scalesOf (X0 m c) (X1 m c) (((cfg0.win 6).blk t).view.emb j)
  rw [f]

/-- The scales' array after the run. -/
theorem arr6_eq : (dats m 0 c).arrAt 6 cfg0.N = scalesOf (X0 m c) (X1 m c) := by
  refine Dat.arrAt_eq_of_cover (dats m 0 c) 6 _ (fun t _ => flushed6_eq m c t) (fun (i : S4x1x1024.Idx) => ?_)
  have ht : 0 < cfg0.N := by rw [N_eq]; omega
  refine ⟨⟨0, ht⟩, flush0_6 _, ?_⟩
  obtain ⟨i0, i1, i2, i3, i4, i5, i6⟩ := index_facts ⟨0, ht⟩
  show i ∈ ((View.whole main_v3_2).slice (win0_6.rect ⟨0, ht⟩)).set
  rw [View.set_slice_whole, Rect.mem_set_unit]
  intro a
  match a with
  | ⟨0, _⟩ =>
    have : win0_6.index ⟨0, ht⟩ 0 * 4 ≤ (i 0 : Nat) ∧ (i 0 : Nat) < win0_6.index ⟨0, ht⟩ 0 * 4 + 4 := by
      rw [i6, Nat.zero_mul, Nat.zero_add]; exact ⟨Nat.zero_le _, (i 0).isLt⟩
    exact this
  | ⟨1, _⟩ =>
    have : win0_6.index ⟨0, ht⟩ 1 * 1 ≤ (i 1 : Nat) ∧ (i 1 : Nat) < win0_6.index ⟨0, ht⟩ 1 * 1 + 1 := by
      rw [i6, Nat.zero_mul, Nat.zero_add]; exact ⟨Nat.zero_le _, (i 1).isLt⟩
    exact this
  | ⟨2, _⟩ =>
    have : win0_6.index ⟨0, ht⟩ 2 * 1024 ≤ (i 2 : Nat) ∧ (i 2 : Nat) < win0_6.index ⟨0, ht⟩ 2 * 1024 + 1024 := by
      rw [i6, Nat.zero_mul, Nat.zero_add]; exact ⟨Nat.zero_le _, (i 2).isLt⟩
    exact this

end Cert.ReferenceIdeal.Array

end
-- ==== Proof.Pre.lean ====
/-
  What the precondition says of the arguments: every row's q is zero or in the range the two ways of finding a power of
  two agree on.
-/
module

public import proofs.«01_k».proof.Proof.RowMath
public import proofs.«01_k».proof.Proof.Gen.Pre_q_in_normal_range
public import Idealize.ShloMosaic.Lib.Pointwise

@[expose] public section

noncomputable section

namespace Cert.Pre_q_in_normal_range.Reading

open Cert.Pre_q_in_normal_range Idealize.ShloMosaic

/-- The precondition's last step at one row: the three comparisons of q. -/
theorem range_of_bits (x : EReal)
    (h : IntOp.ori (Ideal.cmp .oeq x (Ideal.ofBits .f32 0x00000000#32))
      (IntOp.andi (Ideal.cmp .oge x (Ideal.ofBits .f32 0x00800000#32)) (Ideal.cmp .olt x (Ideal.ofBits .f32 0x7E800000#32))) = 1#1) :
    Row.InRange x := by
  rw [Ideal.ofBits_zero_f32] at h
  unfold Row.InRange
  generalize Ideal.ofBits .f32 0x00800000#32 = lo at *
  generalize Ideal.ofBits .f32 0x7E800000#32 = hi at *
  by_cases h0 : x = 0
  · exact .inl h0
  · right
    by_cases h1 : lo ≤ x <;> by_cases h2 : x < hi <;> simp [Ideal.cmp, h0, h1, h2, IntOp.ori, IntOp.andi] at h ⊢

variable (x : FVec Ideal S4x1024x1152 .bf16) (g : FVec Ideal S1152 .bf16) (w : FVec Ideal S1536x1152 .fp8e4m3)
  (ws : FVec Ideal S1536 .f32)

/-- The row at one pair of leading indices, after the norm. -/
abbrev normed (b : Fin 4) (t : Fin 1024) : Row.Row := Row.norm (fun k => x (ix3 b t k)) (fun k => g (ix1 k))

/-- The mean square plus epsilon, per row, as the precondition computes it. -/
def meanV : FVec Ideal S4x1024x1 .f32 :=
  addf (Host.divf (broadcastInDim S4x1024x1 ![0, 1] Facts.bcast_S4x1024_S4x1024x1_0_1
      (Host.reduceAdd (mulf (extf .f32 x Facts.bitsLt_bf16_f32) (extf .f32 x Facts.bitsLt_bf16_f32)) (constant S_ .f32 0x00000000#32)
        Facts.reducesTo_S4x1024x1152_S4x1024_d2 Facts.h_S_))
      (broadcastInDim S4x1024x1 ![] Facts.bcast_S_S4x1024x1 (constant S_ .f32 0x44900000#32)))
    (broadcastInDim S4x1024x1 ![] Facts.bcast_S_S4x1024x1 (constant S_ .f32 0x358637BD#32))

/-- The normalised rows, as the precondition computes them. -/
def normV : FVec Ideal S4x1024x1152 .f32 :=
  mulf (mulf (extf .f32 x Facts.bitsLt_bf16_f32)
      (broadcastInDim S4x1024x1152 ![0, 1, 2] Facts.bcast_S4x1024x1_S4x1024x1152_0_1_2 (Host.rsqrt (meanV x))))
    (broadcastInDim S4x1024x1152 ![0, 1, 2] Facts.bcast_S1x1x1152_S4x1024x1152_0_1_2
      (broadcastInDim S1x1x1152 ![2] Facts.bcast_S1152_S1x1x1152_2 (extf .f32 g Facts.bitsLt_bf16_f32)))

/-- Each row's largest magnitude, as the precondition computes it. -/
def amaxV : FVec Ideal S4x1024x1 .f32 :=
  broadcastInDim S4x1024x1 ![0, 1] Facts.bcast_S4x1024_S4x1024x1_0_1
    (Host.reduce FloatOps.maximumf (Host.absf (normV x g)) (constant S_ .f32 0xFF800000#32)
      Facts.reducesTo_S4x1024x1152_S4x1024_d2 Facts.h_S_)

/-- The mean square plus epsilon of one row. -/
theorem meanV_apply (b : Fin 4) (t : Fin 1024) :
    meanV x (ix3 b t 0) = (∑ k, x (ix3 b t k) * x (ix3 b t k)) * ((1 / 1152 : ℝ) : EReal) + Ideal.ofBits .f32 0x358637BD#32 := by
  pointwise [meanV]
  simp only [Row.div_1152]

/-- One normalised row. -/
theorem normV_apply (b : Fin 4) (t : Fin 1024) (k : Fin 1152) : normV x g (ix3 b t k) = normed x g b t k := by
  pointwise [normV]
  simp only [meanV_apply]
  rfl

/-- One row's largest magnitude. -/
theorem amaxV_apply (b : Fin 4) (t : Fin 1024) : amaxV x g (ix3 b t 0) = Row.amax (normed x g b t) := by
  pointwise [amaxV]
  simp only [normV_apply]
  rfl

/-- Each row's q, as the precondition computes it. -/
def qV : FVec Ideal S4x1024x1 .f32 :=
  mulf (amaxV x g) (broadcastInDim S4x1024x1 ![] Facts.bcast_S_S4x1024x1 (constant S_ .f32 0x3B124925#32))

/-- One row's q. -/
theorem qV_apply (b : Fin 4) (t : Fin 1024) : qV x g (ix3 b t 0) = Row.q (normed x g b t) := by
  unfold Row.q qV
  rw [← amaxV_apply, mulf_apply]
  rfl

/-- The precondition is three comparisons of q. -/
theorem fn_eq : fn (F := Ideal) x g w ws
    = ori (cmpf .oeq (qV x g) (broadcastInDim S4x1024x1 ![] Facts.bcast_S_S4x1024x1 (constant S_ .f32 0x00000000#32)))
        (andi (cmpf .oge (qV x g) (broadcastInDim S4x1024x1 ![] Facts.bcast_S_S4x1024x1 (constant S_ .f32 0x00800000#32)))
          (cmpf .olt (qV x g) (broadcastInDim S4x1024x1 ![] Facts.bcast_S_S4x1024x1 (constant S_ .f32 0x7E800000#32)))) := by
  rfl

/-- The precondition at one row. -/
theorem fn_apply (b : Fin 4) (t : Fin 1024) (h : fn (F := Ideal) x g w ws (ix3 b t 0) = 1#1) :
    Row.InRange (Row.q (normed x g b t)) := by
  rw [fn_eq, ori_apply, andi_apply, ValueIdx.cmpf_apply, ValueIdx.cmpf_apply, ValueIdx.cmpf_apply, qV_apply] at h
  exact range_of_bits _ h

end Cert.Pre_q_in_normal_range.Reading

end
-- ==== Proof.Equation.lean ====
/-
  The equation: from equal arguments of which the precondition holds, the kernel's three result arrays and the
  reference's are the same.
-/
module

public import proofs.«01_k».proof.Proof.KernelArray
public import proofs.«01_k».proof.Proof.RefArray
public import proofs.«01_k».proof.Proof.Pre
public import proofs.«01_k».proof.Defs
public import Idealize.ShloMosaic.Lib.Claim

@[expose] public section

set_option maxRecDepth 16384

noncomputable section

namespace Cert.Equation

open Idealize.ShloMosaic Idealize.ShloMosaic.TcCoe Idealize.SL.Sem

/-! ## Row by row -/

/-- In range, the kernel's scale is the reference's. -/
theorem scale_row (h : Row.Row) (hr : Row.InRange (Row.q h)) : Row.scale (Row.q h) = ReferenceIdeal.Block.refScale h :=
  Row.scale_eq h hr

/-- In range, the kernel's code is the reference's. -/
theorem code_row (h : Row.Row) (hr : Row.InRange (Row.q h)) (k : Fin 1152) :
    Row.code h k = ReferenceIdeal.Block.refCode h k := by
  unfold Row.code ReferenceIdeal.Block.refCode
  rw [Row.inv_eq h hr, min_comm, max_comm]

/-! ## Array by array -/

section
variable (x0 : KernelIdeal.S4096x1152.Idx → EReal) (x1 : KernelIdeal.S1x1152.Idx → EReal)
  (x2 : KernelIdeal.S1536x1152.Idx → EReal) (x3 : KernelIdeal.S1x1536.Idx → EReal)
  (hr : ∀ r : Fin 4096, Row.InRange (Row.q (KernelIdeal.Block.normed x0 x1 r)))
include hr

/-- The codes agree. -/
theorem codes_eq : KernelIdeal.Block.codesOf x0 x1 = ReferenceIdeal.Array.codesOf x0 x1 :=
  funext fun i => code_row _ (hr (i 0)) (i 1)

/-- The scales agree. -/
theorem scales_eq : KernelIdeal.Array.scalesOf x0 x1 = ReferenceIdeal.Array.scalesOf x0 x1 :=
  funext fun j => scale_row _ (hr (KernelIdeal.Array.rowOf j))

/-- The linears agree. -/
theorem linear_eq : KernelIdeal.Block.linearOf x0 x1 x2 x3 = ReferenceIdeal.Array.linearOf x0 x1 x2 x3 := by
  funext i
  unfold KernelIdeal.Block.linearOf ReferenceIdeal.Array.linearOf KernelIdeal.Block.codesOf KernelIdeal.Block.scaleOf
  have hs := scale_row _ (hr (i 0))
  have hc := fun k => code_row _ (hr (i 0)) k
  rw [hs]
  refine congrArg₂ _ (congrArg₂ _ (Finset.sum_congr rfl fun k _ => ?_) rfl) rfl
  exact congrArg₂ _ (hc k) rfl

end

/-! ## What the regions find -/

/-- Row 1024 b + t of the rows laid flat is the row at (b, t). -/
theorem flat_rows (x : FVec Ideal KernelIdeal.S4x1024x1152 .bf16) (hc : KernelIdeal.S4x1024x1152.ShapeCasts KernelIdeal.S4096x1152)
    (b : Fin 4) (t : Fin 1024) (h : b.val * 1024 + t.val < 4096) (k : Fin 1152) :
    shapeCast KernelIdeal.S4096x1152 x hc (ix2 ⟨b.val * 1024 + t.val, h⟩ k) = x (ix3 b t k) := by
  pointwise

/-- Gamma laid as one row is gamma. -/
theorem flat_gamma (g : FVec Ideal KernelIdeal.S1152 .bf16) (hc : KernelIdeal.S1152.ShapeCasts KernelIdeal.S1x1152) (k : Fin 1152) :
    shapeCast KernelIdeal.S1x1152 g hc (ix2 0 k) = g (ix1 k) := by
  pointwise

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- Row 1024 b + t of the flat array is the row at (b, t) of the argument. -/
theorem X0_apply (b : Fin 4) (t : Fin 1024) (h : b.val * 1024 + t.val < 4096) (k : Fin 1152) :
    KernelIdeal.Array.X0 m c (ix2 ⟨b.val * 1024 + t.val, h⟩ k)
      = (m ((c.tc : Thread KernelIdeal.nD KernelIdeal.τ).loc KernelIdeal.main_arg0) : FVec Ideal KernelIdeal.S4x1024x1152 .bf16) (ix3 b t k) := by
  unfold KernelIdeal.Array.X0
  entry_read
  exact flat_rows _ _ b t h k

/-- The flat gamma is gamma. -/
theorem X1_apply (k : Fin 1152) :
    KernelIdeal.Array.X1 m c (ix2 0 k)
      = (m ((c.tc : Thread KernelIdeal.nD KernelIdeal.τ).loc KernelIdeal.main_arg1) : FVec Ideal KernelIdeal.S1152 .bf16) (ix1 k) := by
  unfold KernelIdeal.Array.X1
  entry_read
  exact flat_gamma _ _ k

/-- Under the precondition every row's q is in range. -/
theorem inRange (hp : Cert.Pre_KernelIdeal_q_in_normal_range m) (r : Fin 4096) :
    Row.InRange (Row.q (KernelIdeal.Block.normed (KernelIdeal.Array.X0 m c) (KernelIdeal.Array.X1 m c) r)) := by
  have hr := r.isLt
  have hd : r.val / 1024 * 1024 + r.val % 1024 < 4096 := by omega
  have e : r = (⟨r.val / 1024 * 1024 + r.val % 1024, hd⟩ : Fin 4096) := Fin.ext (by show r.val = r.val / 1024 * 1024 + r.val % 1024; omega)
  have h := Pre_q_in_normal_range.Reading.fn_apply _ _ _ _ (⟨r.val / 1024, by omega⟩ : Fin 4) (⟨r.val % 1024, by omega⟩ : Fin 1024)
    (congrFun (hp c) (ix3 _ _ 0))
  have hn : KernelIdeal.Block.normed (KernelIdeal.Array.X0 m c) (KernelIdeal.Array.X1 m c) r
      = Pre_q_in_normal_range.Reading.normed (m ((c.tc : Thread KernelIdeal.nD KernelIdeal.τ).loc KernelIdeal.main_arg0))
          (m ((c.tc : Thread KernelIdeal.nD KernelIdeal.τ).loc KernelIdeal.main_arg1))
          (⟨r.val / 1024, by omega⟩ : Fin 4) (⟨r.val % 1024, by omega⟩ : Fin 1024) := by
    refine congrArg₂ Row.norm (funext fun k => ?_) (funext fun k => X1_apply m c k)
    refine Eq.trans ?_ (X0_apply m c (⟨r.val / 1024, by omega⟩ : Fin 4) (⟨r.val % 1024, by omega⟩ : Fin 1024) hd k)
    exact congrArg (fun r' => KernelIdeal.Array.X0 m c (ix2 r' k)) e
  rw [hn]
  exact h

/-- Equal first arguments give equal flat arrays. -/
theorem X0_eq (h : m' ((c.tc : Thread ReferenceIdeal.nD ReferenceIdeal.τ).loc ReferenceIdeal.main_arg0) = m ((c.tc : Thread KernelIdeal.nD KernelIdeal.τ).loc KernelIdeal.main_arg0)) :
    ReferenceIdeal.Array.X0 m' c = KernelIdeal.Array.X0 m c := by
  unfold ReferenceIdeal.Array.X0 KernelIdeal.Array.X0
  entry_read
  exact congrArg (fun x => shapeCast KernelIdeal.S4096x1152 x KernelIdeal.Gen.shapeCasts_S4x1024x1152_S4096x1152) h

/-- Equal second arguments give equal flat gammas. -/
theorem X1_eq (h : m' ((c.tc : Thread ReferenceIdeal.nD ReferenceIdeal.τ).loc ReferenceIdeal.main_arg1) = m ((c.tc : Thread KernelIdeal.nD KernelIdeal.τ).loc KernelIdeal.main_arg1)) :
    ReferenceIdeal.Array.X1 m' c = KernelIdeal.Array.X1 m c := by
  unfold ReferenceIdeal.Array.X1 KernelIdeal.Array.X1
  entry_read
  exact congrArg (fun x => shapeCast KernelIdeal.S1x1152 x KernelIdeal.Gen.shapeCasts_S1152_S1x1152) h

/-- Equal third arguments are found equal. -/
theorem X2_eq (h : m' ((c.tc : Thread ReferenceIdeal.nD ReferenceIdeal.τ).loc ReferenceIdeal.main_arg2) = m ((c.tc : Thread KernelIdeal.nD KernelIdeal.τ).loc KernelIdeal.main_arg2)) :
    ReferenceIdeal.Array.X2 m' c = KernelIdeal.Array.X2 m c :=
  (ReferenceIdeal.Gen.V_main_arg2 m' c).trans (h.trans (KernelIdeal.Gen.V_main_arg2 m c).symm)

/-- Equal fourth arguments give equal flat weight scales. -/
theorem X3_eq (h : m' ((c.tc : Thread ReferenceIdeal.nD ReferenceIdeal.τ).loc ReferenceIdeal.main_arg3) = m ((c.tc : Thread KernelIdeal.nD KernelIdeal.τ).loc KernelIdeal.main_arg3)) :
    ReferenceIdeal.Array.X3 m' c = KernelIdeal.Array.X3 m c := by
  unfold ReferenceIdeal.Array.X3 KernelIdeal.Array.X3
  entry_read
  exact congrArg (fun x => shapeCast KernelIdeal.S1x1536 x KernelIdeal.Gen.shapeCasts_S1536_S1x1536) h

end

/-! ## The claim -/

/-- The kernel's three results and the reference's are equal, the arguments left as they were. -/
theorem algebraic : Cert.algebraic_KernelIdeal_ReferenceIdeal_pre_q_in_normal_range := by
  intro m g m' g' hp ha
  refine ⟨fun c => KernelIdeal.Block.linearOf (KernelIdeal.Array.X0 m c) (KernelIdeal.Array.X1 m c) (KernelIdeal.Array.X2 m c) (KernelIdeal.Array.X3 m c),
    fun c => KernelIdeal.Block.codesOf (KernelIdeal.Array.X0 m c) (KernelIdeal.Array.X1 m c),
    fun c => KernelIdeal.Array.scalesOf (KernelIdeal.Array.X0 m c) (KernelIdeal.Array.X1 m c), ?_, ?_⟩
  · refine (θ_run KernelIdeal.defs _ _).mono (fun r h c => ?_) (KernelIdeal.Value.run_blocks m g)
    obtain ⟨h4, h5, h6, hrest⟩ := h c
    exact ⟨h4.trans (KernelIdeal.Array.arr4_eq m c), h5.trans (KernelIdeal.Array.arr5_eq m c),
      h6.trans (KernelIdeal.Array.arr6_eq m c), hrest⟩
  · refine (θ_run ReferenceIdeal.defs _ _).mono (fun r h c => ?_) (ReferenceIdeal.Run.run_blocks m' g')
    obtain ⟨h4, h5, h6, hrest⟩ := h c
    obtain ⟨a0, a1, a2, a3⟩ := ha c
    have hr := inRange m c hp
    refine ⟨(h4.trans (ReferenceIdeal.Array.arr4_eq m' c)).trans ?_, (h5.trans (ReferenceIdeal.Array.arr5_eq m' c)).trans ?_,
      (h6.trans (ReferenceIdeal.Array.arr6_eq m' c)).trans ?_, hrest⟩
    · rw [X0_eq m m' c a0, X1_eq m m' c a1, X2_eq m m' c a2, X3_eq m m' c a3]
      exact (linear_eq _ _ _ _ hr).symm
    · rw [X0_eq m m' c a0, X1_eq m m' c a1]
      exact (codes_eq _ _ hr).symm
    · rw [X0_eq m m' c a0, X1_eq m m' c a1]
      exact (scales_eq _ _ hr).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.Pre_q_in_normal_range
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim: the three programs run and leave their arguments as they were, with and without the precondition; the
    named constant is 1 / 1152; and under the precondition the kernel's results are the reference's. -/
theorem claim : Cert.Claim :=
  ⟨Cert.Kernel.Gen.facts, Cert.KernelIdeal.Gen.facts, Cert.ReferenceIdeal.Gen.facts, Cert.Pre_q_in_normal_range.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    IdealRules.named_const.statement Cert.KernelIdeal.κ "inv_d" .f32 0x3A638E39#32 ((1 / 1152 : ℝ) : EReal) rfl,
    Cert.Equation.algebraic⟩

end Cert.Proof

end
